-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_int4_codes [hPre_int4_codes : Cert.Pre_int4_codes.Facts] (m : (ℓ : Loc Cert.KernelIdeal.nD Cert.KernelIdeal.τ Cert.KernelIdeal.sig) → Buf (Elt Ideal) ℓ) : Prop :=
  ∀ c : Dev Cert.KernelIdeal.nD,
    (Cert.Pre_int4_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_int4_codes [hPre_int4_codes : Cert.Pre_int4_codes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_int4_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_int4_codes [hKernelIdeal : Cert.KernelIdeal.Facts] [hPre_int4_codes : Cert.Pre_int4_codes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_int4_codes m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_int4_codes [hReferenceIdeal : Cert.ReferenceIdeal.Facts] [hPre_int4_codes : Cert.Pre_int4_codes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_int4_codes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_int4_codes [hKernelIdeal : Cert.KernelIdeal.Facts] [hReferenceIdeal : Cert.ReferenceIdeal.Facts] [hPre_int4_codes : Cert.Pre_int4_codes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_int4_codes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_int4_codes : Cert.Pre_int4_codes.Facts),
    quiescent_Kernel (hKernel := hKernel)
    ∧ quiescent_KernelIdeal (hKernelIdeal := hKernelIdeal)
    ∧ quiescent_KernelIdeal_pre_int4_codes (hKernelIdeal := hKernelIdeal) (hPre_int4_codes := hPre_int4_codes)
    ∧ quiescent_ReferenceIdeal (hReferenceIdeal := hReferenceIdeal)
    ∧ quiescent_ReferenceIdeal_pre_int4_codes (hReferenceIdeal := hReferenceIdeal) (hPre_int4_codes := hPre_int4_codes)
    ∧ preserves_Kernel_KernelIdeal
    ∧ algebraic_KernelIdeal_ReferenceIdeal_pre_int4_codes (hKernelIdeal := hKernelIdeal) (hReferenceIdeal := hReferenceIdeal) (hPre_int4_codes := hPre_int4_codes)
-- ==== Pre_int4_codes.lean ====
abbrev S2048x4096 : Shape := ⟨2, ![2048, 4096]⟩
abbrev S2048x1 : Shape := ⟨2, ![2048, 1]⟩
abbrev S16 : Shape := ⟨1, ![16]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S2048x4096 .f32) (main_arg1 : FVec F S2048x1 .f32) (main_arg2 : FVec F S2048x1 .f32) (main_arg3 : FVec F S16 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S16 .f32 := sitofp .f32 (iotaInDim S16 32 0)
  let main_cst_0 : FVec F S_ .f32 := constant S_ .f32 0x41000000#32
  let main_v5 : FVec F S16 .f32 := broadcastInDim S16 ![] bcast_S_S16 main_cst_0
  let main_v6 : FVec F S16 .f32 := subf main_v4 main_v5
  let main_v7 : IVec S16 1 := cmpf .oeq main_arg3 main_v6
  let main_c_1 : IVec S_ 1 := constantI S_ 1 1#1
  let main_v8 : IVec S_ 1 := (fun x v => Host.reduce IntOp.andi x v reducesTo_S16_S_d0 h_S_) main_v7 main_c_1
  let main_v9 : IVec S_ 1 := andi main_v3 main_v8
  main_v9
-- ==== Kernel.lean ====
abbrev S2048x4096 : Shape := ⟨2, ![2048, 4096]⟩
abbrev S2048x1 : Shape := ⟨2, ![2048, 1]⟩
abbrev S16 : Shape := ⟨1, ![16]⟩
abbrev S1x2048x1x1 : Shape := ⟨4, ![1, 2048, 1, 1]⟩
abbrev S1x2048x16x1 : Shape := ⟨4, ![1, 2048, 16, 1]⟩
abbrev S2048x16 : Shape := ⟨2, ![2048, 16]⟩
abbrev S32768 : Shape := ⟨1, ![32768]⟩
abbrev S8388608 : Shape := ⟨1, ![8388608]⟩
abbrev S16384 : Shape := ⟨1, ![16384]⟩
abbrev S1024 : Shape := ⟨1, ![1024]⟩
abbrev S_ : Shape := ⟨0, ![]⟩

abbrev nBuf : Table → Nat
  | .hbm => 15
  | .local .scVector .vmem => 4
  | _ => 0

abbrev bufTy : (tb : Table) → Fin (nBuf tb) → BufTy
  | .hbm, ⟨0, _⟩ => ⟨S2048x4096, .f32⟩
  | .hbm, ⟨1, _⟩ => ⟨S2048x1, .f32⟩
  | .hbm, ⟨2, _⟩ => ⟨S2048x1, .f32⟩
  | .hbm, ⟨3, _⟩ => ⟨S16, .f32⟩
  | .hbm, ⟨4, _⟩ => ⟨S1x2048x1x1, .f32⟩
  | .hbm, ⟨5, _⟩ => ⟨S1x2048x16x1, .f32⟩
  | .hbm, ⟨6, _⟩ => ⟨S2048x16, .f32⟩
  | .hbm, ⟨7, _⟩ => ⟨S32768, .f32⟩
  | .hbm, ⟨8, _⟩ => ⟨S1x2048x1x1, .f32⟩
  | .hbm, ⟨9, _⟩ => ⟨S1x2048x16x1, .f32⟩
  | .hbm, ⟨10, _⟩ => ⟨S2048x16, .f32⟩
  | .hbm, ⟨11, _⟩ => ⟨S32768, .f32⟩
  | .hbm, ⟨12, _⟩ => ⟨S8388608, .f32⟩
  | .hbm, ⟨13, _⟩ => ⟨S8388608, .f32⟩
  | .hbm, ⟨14, _⟩ => ⟨S2048x4096, .f32⟩
  | .local .scVector .vmem, ⟨0, _⟩ => ⟨S16384, .f32⟩
  | .local .scVector .vmem, ⟨1, _⟩ => ⟨S16384, .f32⟩
  | .local .scVector .vmem, ⟨2, _⟩ => ⟨S1024, .f32⟩
  | .local .scVector .vmem, ⟨3, _⟩ => ⟨S1024, .f32⟩
  | _, _ => ⟨S2048x4096, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v8_scv : Ref sig .scVector := ⟨.hbm, 12, rfl⟩
abbrev main_v3_scv : Ref sig .scVector := ⟨.hbm, 7, rfl⟩
abbrev main_v7_scv : Ref sig .scVector := ⟨.hbm, 11, rfl⟩
abbrev main_v9_scv : Ref sig .scVector := ⟨.hbm, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c16_i32 : BitVec 32 := 16#32
  let v3 : BitVec 32 := Scalar.muli v2 c16_i32
  ![v3.toNat]
@[reducible] def k0_t1_loop : Scf.Loop 32 :=
  let c0_i32_1 : BitVec 32 := 0#32
  let c16_i32_2 : BitVec 32 := 16#32
  let v5 : BitVec 32 := Scalar.addi c0_i32_1 c16_i32_2
  let c1_i32 : BitVec 32 := 1#32
  ⟨c0_i32_1, v5, c1_i32⟩
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_1 : BitVec 32 := 0#32
  let c1_i32 : BitVec 32 := 1#32
  let arg10 : BitVec 32 := Scf.iv c0_i32_1 c1_i32 k0_t1
  let c4_i32 : BitVec 32 := 4#32
  let v6 : BitVec 32 := Scalar.muli arg10 c4_i32
  let v7 : BitVec 32 := Scalar.addi v2 v6
  let c4096_i32 : BitVec 32 := 4096#32
  let v8 : BitVec 32 := Scalar.muli v7 c4096_i32
  ![v8.toNat]
@[reducible] def k0_t2_loop : Scf.Loop 32 :=
  let c0_i32_5 : BitVec 32 := 0#32
  let c4_i32_6 : BitVec 32 := 4#32
  let v9 : BitVec 32 := Scalar.addi c0_i32_5 c4_i32_6
  let c1_i32_7 : BitVec 32 := 1#32
  ⟨c0_i32_5, v9, c1_i32_7⟩
def k0_off3 (k0_t1 : Fin k0_t1_loop.trips) (k0_t2 : Fin k0_t2_loop.trips) : Fin 1 → Nat :=
  let c0_i32_1 : BitVec 32 := 0#32
  let c1_i32 : BitVec 32 := 1#32
  let arg10 : BitVec 32 := Scf.iv c0_i32_1 c1_i32 k0_t1
  let c4_i32_9 : BitVec 32 := 4#32
  let v10 : BitVec 32 := Scalar.muli arg10 c4_i32_9
  let c0_i32_5 : BitVec 32 := 0#32
  let c1_i32_7 : BitVec 32 := 1#32
  let arg11 : BitVec 32 := Scf.iv c0_i32_5 c1_i32_7 k0_t2
  let v11 : BitVec 32 := Scalar.addi v10 arg11
  let c16_i32_10 : BitVec 32 := 16#32
  let v12 : BitVec 32 := Scalar.muli v11 c16_i32_10
  let v13 : Index := Scalar.indexCast v12
  ![v13.toNat]
@[reducible] def k0_t3_loop : Scf.Loop 32 :=
  let c0_i32_14 : BitVec 32 := 0#32
  let c64_i32_15 : BitVec 32 := 64#32
  let v24 : BitVec 32 := Scalar.addi c0_i32_14 c64_i32_15
  let c1_i32_16 : BitVec 32 := 1#32
  ⟨c0_i32_14, v24, c1_i32_16⟩
def k0_off4 (k0_t2 : Fin k0_t2_loop.trips) (k0_t3 : Fin k0_t3_loop.trips) (c0_i32_20 : BitVec 32) : Fin 1 → Nat :=
  let c0_i32_5 : BitVec 32 := 0#32
  let c1_i32_7 : BitVec 32 := 1#32
  let arg11 : BitVec 32 := Scf.iv c0_i32_5 c1_i32_7 k0_t2
  let c4096_i32_18 : BitVec 32 := 4096#32
  let v25 : BitVec 32 := Scalar.muli arg11 c4096_i32_18
  let c0_i32_14 : BitVec 32 := 0#32
  let c1_i32_16 : BitVec 32 := 1#32
  let arg12 : BitVec 32 := Scf.iv c0_i32_14 c1_i32_16 k0_t3
  let c4_i32_19 : BitVec 32 := 4#32
  let v26 : BitVec 32 := Scalar.muli arg12 c4_i32_19
  let v27 : BitVec 32 := Scalar.addi v26 c0_i32_20
  let c16_i32_21 : BitVec 32 := 16#32
  let v28 : BitVec 32 := Scalar.muli v27 c16_i32_21
  let v29 : BitVec 32 := Scalar.addi v25 v28
  let v30 : Index := Scalar.indexCast v29
  ![v30.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2048x4096 : Shape := ⟨2, ![2048, 4096]⟩
abbrev S2048x1 : Shape := ⟨2, ![2048, 1]⟩
abbrev S16 : Shape := ⟨1, ![16]⟩
abbrev S8388608x1 : Shape := ⟨2, ![8388608, 1]⟩
abbrev S1x16 : Shape := ⟨2, ![1, 16]⟩
abbrev S8388608x16 : Shape := ⟨2, ![8388608, 16]⟩
abbrev S_ : Shape := ⟨0, ![]⟩
abbrev S8388608 : Shape := ⟨1, ![8388608]⟩
abbrev S1 : Shape := ⟨1, ![1]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1, .f32⟩
  | .hbm, ⟨2, _⟩ => ⟨S2048x1, .f32⟩
  | .hbm, ⟨3, _⟩ => ⟨S16, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .f32⟩
  | .hbm, ⟨8, _⟩ => ⟨S8388608x1, .f32⟩
  | .hbm, ⟨9, _⟩ => ⟨S1x16, .f32⟩
  | .hbm, ⟨10, _⟩ => ⟨S8388608x16, .f32⟩
  | .hbm, ⟨11, _⟩ => ⟨S8388608x16, .f32⟩
  | .hbm, ⟨12, _⟩ => ⟨S8388608x16, .f32⟩
  | .hbm, ⟨13, _⟩ => ⟨S8388608x16, .f32⟩
  | .hbm, ⟨14, _⟩ => ⟨S8388608x16, .i32⟩
  | .hbm, ⟨15, _⟩ => ⟨S_, .f32⟩
  | .hbm, ⟨16, _⟩ => ⟨S_, .i32⟩
  | .hbm, ⟨17, _⟩ => ⟨S8388608, .f32⟩
  | .hbm, ⟨18, _⟩ => ⟨S8388608, .i32⟩
  | .hbm, ⟨19, _⟩ => ⟨S_, .i32⟩
  | .hbm, ⟨20, _⟩ => ⟨S8388608, .i32⟩
  | .hbm, ⟨21, _⟩ => ⟨S8388608, .i1⟩
  | .hbm, ⟨22, _⟩ => ⟨S_, .i32⟩
  | .hbm, ⟨23, _⟩ => ⟨S8388608, .i32⟩
  | .hbm, ⟨24, _⟩ => ⟨S8388608, .i32⟩
  | .hbm, ⟨25, _⟩ => ⟨S8388608, .i32⟩
  | .hbm, ⟨26, _⟩ => ⟨S8388608x1, .i32⟩
  | .hbm, ⟨27, _⟩ => ⟨S1, .i32⟩
  | .hbm, ⟨28, _⟩ => ⟨S_, .i32⟩
  | .hbm, ⟨29, _⟩ => ⟨S8388608x1, .i32⟩
  | .hbm, ⟨30, _⟩ => ⟨S8388608x1, .i1⟩
  | .hbm, ⟨31, _⟩ => ⟨S1x1, .i32⟩
  | .hbm, ⟨32, _⟩ => ⟨S8388608x1, .i32⟩
  | .hbm, ⟨33, _⟩ => ⟨S8388608x1, .i1⟩
  | .hbm, ⟨34, _⟩ => ⟨S8388608x1, .i1⟩
  | .hbm, ⟨35, _⟩ => ⟨S_, .i1⟩
  | .hbm, ⟨36, _⟩ => ⟨S8388608, .i1⟩
  | .hbm, ⟨37, _⟩ => ⟨S8388608, .f32⟩
  | .hbm, ⟨38, _⟩ => ⟨S_, .f32⟩
  | .hbm, ⟨39, _⟩ => ⟨S8388608, .f32⟩
  | .hbm, ⟨40, _⟩ => ⟨S8388608, .f32⟩
  | .hbm, ⟨41, _⟩ => ⟨S2048x4096, .f32⟩
  | .hbm, ⟨42, _⟩ => ⟨S2048x4096, .f32⟩
  | .hbm, ⟨43, _⟩ => ⟨S2048x4096, .f32⟩
  | .hbm, ⟨44, _⟩ => ⟨S2048x4096, .f32⟩
  | .hbm, ⟨45, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_cst : Ref sig .tc := ⟨.hbm, 15, rfl⟩
abbrev main_call0_c : Ref sig .tc := ⟨.hbm, 16, rfl⟩
abbrev main_call0_v1_0 : Ref sig .tc := ⟨.hbm, 17, rfl⟩
abbrev main_v10 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩

abbrev nD : Nat := 1
abbrev τ : Topo := Topo.v7x

variable {F : FTy → Type} [FloatOps F]
-- ==== Proof.QuantIdeal.lean ====
/-
  The value the kernel computes at one element, and the four stores of one inner-loop trip read at it.
-/
module

public import proofs.«01_k».proof.Defs
public import Idealize.ShloMosaic.Lib.Pipeline.Value
public import proofs.«01_k».proof.Proof.Gen.KernelIdeal
public import proofs.«01_k».proof.Proof.Gen.KernelIdeal.Skeleton

@[expose] public section

noncomputable section

namespace Cert.KernelIdeal.Quant

open Cert.KernelIdeal Cert.KernelIdeal.Gen
open Idealize.ShloMosaic

variable {F : FTy → Type} [FloatOps F]

/-- The element in units of the scale, shifted by the zero point: `x * (1 / s) + z`. -/
def scaled (x s z : F .f32) : F .f32 :=
  FloatOps.addf (FloatOps.mulf x (FloatOps.divf (FloatOps.ofBits .f32 0x3F800000#32) s)) z

/-- `q - 1/2` cut to an integer towards zero, as a float. -/
def cut (q : F .f32) : F .f32 :=
  FloatOps.sitofp .f32 (FloatOps.fptosi 32 (FloatOps.subf q (FloatOps.ofBits .f32 0x3F000000#32)))

/-- The integer nearest `q`: `c = cut q`, plus one when `c + 1/2 < q`. -/
def nearest (q : F .f32) : F .f32 :=
  FloatOps.addf (cut q)
    (Scalar.select (FloatOps.cmpf .olt (FloatOps.addf (cut q) (FloatOps.ofBits .f32 0x3F000000#32)) q)
      (FloatOps.ofBits .f32 0x3F800000#32) (FloatOps.ofBits .f32 0x00000000#32))

/-- The nearest integer held between -8 and 7. -/
def level (q : F .f32) : F .f32 :=
  FloatOps.minimumf (FloatOps.maximumf (nearest q) (FloatOps.ofBits .f32 0xC1000000#32)) (FloatOps.ofBits .f32 0x40E00000#32)

/-- One element quantized and dequantized: `(level - z) * s`. -/
def quant1 (x s z : F .f32) : F .f32 :=
  FloatOps.mulf (FloatOps.subf (level (scaled x s z)) z) s

/-- The same on sixteen lanes. -/
def quant16 (x s z : Vec F S16 .f32) : Vec F S16 .f32 := fun y => quant1 (x y) (s y) (z y)

/-- The first store of an inner trip puts down the sixteen lanes quantized. -/
theorem first_eq (s z x : Vec F S16 .f32) : k0_pay6 (k0_pay1 s) (k0_pay2 z) (k0_pay3 s) x = quant16 x s z := by
  unfold k0_pay6 k0_pay3 k0_pay1 k0_pay2
  simp only [shapeCast_self]
  rfl

/-- So does the second, -/
theorem second_eq (s z x : Vec F S16 .f32) :
    k0_pay9 (k0_pay1 s) (k0_pay2 z) (k0_pay7 (k0_pay2 z) (k0_pay3 s) x) (k0_pay8 (k0_pay2 z) (k0_pay3 s) x) = quant16 x s z := by
  unfold k0_pay9 k0_pay8 k0_pay7 k0_pay3 k0_pay1 k0_pay2
  simp only [shapeCast_self]
  rfl

/-- the third, -/
theorem third_eq (s z x : Vec F S16 .f32) : k0_pay4 s z (k0_pay10 (k0_pay2 z) (k0_pay3 s) x) = quant16 x s z := by
  unfold k0_pay4 k0_pay10 k0_pay3 k0_pay1 k0_pay2
  simp only [shapeCast_self]
  rfl

/-- and the fourth. -/
theorem fourth_eq (s z x : Vec F S16 .f32) : k0_pay5 s z x = quant16 x s z := by
  unfold k0_pay5 k0_pay3 k0_pay1 k0_pay2
  simp only [shapeCast_self]
  rfl

end Cert.KernelIdeal.Quant
-- ==== Proof.TileIdeal.lean ====
/-
  One tile's three loops. The inner loop quantizes a row of a chunk, sixty-four elements a trip (`step3`); the rows loop takes
  the chunk's four rows, each with its own scale and zero point (`step2`); the chunks loop fetches, quantizes and writes back
  sixteen chunks (`step1`). Every loop has an invariant that says which elements are quantized. A region whose chunks are all
  done holds the call's result `outVal` (`done_eq`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.WritesUnit
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.QuantIdeal

@[expose] public section

noncomputable section

namespace Cert.KernelIdeal.Tile

open Cert.KernelIdeal Cert.KernelIdeal.Gen Cert.KernelIdeal.Quant

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- What the launch is stated over: the printed labels and definitions, no loop measure, and the ghost state of the
    handshakes. -/
abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

local notation "xV" => (Memref.whole Cert.KernelIdeal.main_v8_scv : Memref Cert.KernelIdeal.sig Kind.scVector Space.hbm Cert.KernelIdeal.S8388608 EltTy.f32)
local notation "sV" => (Memref.whole Cert.KernelIdeal.main_v3_scv : Memref Cert.KernelIdeal.sig Kind.scVector Space.hbm Cert.KernelIdeal.S32768 EltTy.f32)
local notation "zV" => (Memref.whole Cert.KernelIdeal.main_v7_scv : Memref Cert.KernelIdeal.sig Kind.scVector Space.hbm Cert.KernelIdeal.S32768 EltTy.f32)
local notation "oV" => (Memref.whole Cert.KernelIdeal.main_v9_scv : Memref Cert.KernelIdeal.sig Kind.scVector Space.hbm Cert.KernelIdeal.S8388608 EltTy.f32)
local notation "xB" => (Memref.whole Cert.KernelIdeal.cc0_scratch0 : Memref Cert.KernelIdeal.sig Kind.scVector Space.vmem Cert.KernelIdeal.S16384 EltTy.f32)
local notation "oB" => (Memref.whole Cert.KernelIdeal.cc0_scratch1 : Memref Cert.KernelIdeal.sig Kind.scVector Space.vmem Cert.KernelIdeal.S16384 EltTy.f32)
local notation "sB" => (Memref.whole Cert.KernelIdeal.cc0_scratch2 : Memref Cert.KernelIdeal.sig Kind.scVector Space.vmem Cert.KernelIdeal.S1024 EltTy.f32)
local notation "zB" => (Memref.whole Cert.KernelIdeal.cc0_scratch3 : Memref Cert.KernelIdeal.sig Kind.scVector Space.vmem Cert.KernelIdeal.S1024 EltTy.f32)

section Body

variable (d : Dev nD) (L : grid0.Coords)

/-- The tile's SparseCore and its place there. -/
abbrev cV (L : grid0.Coords) : Fin τ.nSC := (L 0).castLE hcore0
abbrev jV (L : grid0.Coords) : Fin τ.nSub := (L 1).castLE hsub0
/-- The tile's thread. -/
abbrev vT : Thread nD τ := V d (cV L) (jV L)

/-- The lane of a chunk's element: its position modulo sixteen. -/
def lane (j : S16384.Idx) : S16.Idx := ValueIdx.ix1 ⟨(j 0).val % 16, Nat.mod_lt _ (by decide)⟩

/-- The output buffer after `k` trips of the inner loop at row `t2` of the chunk, from contents `g0`: the rows before `t2`
    as they were, the row's first `64 * k` elements quantized by the row's sixteen scales and zero points. -/
def Filled (t2 k : ℕ) (X g0 g : S16384.Idx → F .f32) (s z : S16.Idx → F .f32) : Prop :=
  ∀ j : S16384.Idx,
    ((j 0).val < 4096 * t2 → g j = g0 j)
    ∧ (4096 * t2 ≤ (j 0).val → (j 0).val < 4096 * t2 + 64 * k → g j = quant1 (X j) (s (lane j)) (z (lane j)))

/-- One store of sixteen quantized elements, newest in a list of stores, read at an element. -/
theorem store_apply (X g : S16384.Idx → F .f32) (s z : Vec F S16 .f32) {off : Fin 1 → ℕ} (inb : ∀ a, off a + ![16] a ≤ S16384.size a)
    (l : List (View.Piece (Elt F) S16384 .f32)) (o : ℕ) (hoff : off = ![o]) (ho : 16 ∣ o) (j : S16384.Idx) :
    (View.whole cc0_scratch1).writes (Elt F) g
        ((⟨Rect.unit (s := S16384) off ![16] inb, quant16 ((View.whole cc0_scratch0).readAt (Elt F) (Rect.unit (s := S16384) off ![16] inb).toLoadRect X) s z⟩ :
          View.Piece (Elt F) S16384 .f32) :: l) j
      = if o ≤ (j 0).val ∧ (j 0).val < o + 16 then quant1 (X j) (s (lane j)) (z (lane j))
        else (View.whole cc0_scratch1).writes (Elt F) g l j := by
  subst hoff
  obtain ⟨c, rfl⟩ := ho
  split
  · next h =>
    have hj : ∀ a : Fin 1, (j a).val = ![16 * c] a + (lane j a).val := fun a => by
      match a with
      | 0 => show (j 0).val = 16 * c + (j 0).val % 16; omega
    refine (View.read_writes_cons_unit_of_mem (View.whole cc0_scratch1) g inb _ l j (lane j) rfl hj).trans ?_
    show quant1 (X _) (s (lane j)) (z (lane j)) = _
    congr 2
    funext a
    refine Fin.ext ?_
    match a with
    | 0 => show 16 * c + 1 * ((j 0).val % 16) = (j 0).val; omega
  · next h =>
    exact View.read_writes_cons_unit_of_not_mem (View.whole cc0_scratch1) g inb _ l j rfl 0 (by
      show (j 0).val < 16 * c ∨ 16 * c + 16 ≤ (j 0).val; omega)

/-- Four stores of sixteen quantized elements extend the filled part of the row by sixty-four. -/
theorem filled_step {t2 : Fin k0_t2_loop.trips} {k : Fin k0_t3_loop.trips} {X g0 g : S16384.Idx → F .f32} {s z : Vec F S16 .f32}
    (hg : Filled t2.val k.val X g0 g s z) (g' : S16384.Idx → F .f32)
    (hg' : ∀ j : S16384.Idx, g' j =
      if 4096 * t2.val + 64 * k.val ≤ (j 0).val ∧ (j 0).val < 4096 * t2.val + 64 * (k.val + 1) then quant1 (X j) (s (lane j)) (z (lane j)) else g j) :
    Filled t2.val (k.val + 1) X g0 g' s z := by
  intro j
  rw [hg' j]
  refine ⟨fun h => ?_, fun h h' => ?_⟩
  · rw [if_neg (by omega)]; exact (hg j).1 h
  · by_cases hk : 4096 * t2.val + 64 * k.val ≤ (j 0).val
    · rw [if_pos ⟨hk, h'⟩]
    · rw [if_neg (by omega)]; exact (hg j).2 h (by omega)

/-- Before the inner loop's first trip nothing of the row is asked. -/
theorem filled_zero (t2 : ℕ) (X g : S16384.Idx → F .f32) (s z : S16.Idx → F .f32) : Filled t2 0 X g g s z :=
  fun _ => ⟨fun _ => rfl, fun h h' => absurd h' (by omega)⟩

/-- The first `k` rows of the output buffer quantized, an element of row `r` by the scale and zero point at
    `64 * t1 + 16 * r` plus its lane. -/
def Rows (t1 k : ℕ) (X g : S16384.Idx → F .f32) (S Z : S1024.Idx → F .f32) : Prop :=
  ∀ (j : S16384.Idx) (p : S1024.Idx), (j 0).val < 4096 * k → (p 0).val = 64 * t1 + 16 * ((j 0).val / 4096) + (j 0).val % 16 →
    g j = quant1 (X j) (S p) (Z p)

/-- Sixteen words loaded from a tile's scales, read at a lane. -/
theorem load_apply (S : S1024.Idx → F .f32) (t1 : Fin k0_t1_loop.trips) (k : Fin k0_t2_loop.trips) (y : S16.Idx) (p : S1024.Idx)
    (hp : (p 0).val = 64 * t1.val + 16 * k.val + (y 0).val) :
    (View.whole cc0_scratch2).readAt (Elt F) (Rect.unit (s := S1024) (k0_off3 t1 k) S16.size (k0_off3_inb t1 k)).toLoadRect S y = S p := by
  show S _ = S p
  congr 1
  funext a
  refine Fin.ext ?_
  match a with
  | 0 =>
    show k0_off3 t1 k 0 + 1 * (y 0).val = (p 0).val
    rw [k0_off3_eq, hp]; simp

/-- A row filled to its end is one more row quantized. -/
theorem rows_step {t1 : Fin k0_t1_loop.trips} {k : Fin k0_t2_loop.trips} {X g g' : S16384.Idx → F .f32} {S Z : S1024.Idx → F .f32}
    (hg : Rows t1.val k.val X g S Z)
    (hg' : Filled k.val k0_t3_loop.trips X g g' ((View.whole cc0_scratch2).readAt (Elt F) (Rect.unit (s := S1024) (k0_off3 t1 k) S16.size (k0_off3_inb t1 k)).toLoadRect S) ((View.whole cc0_scratch3).readAt (Elt F) (Rect.unit (s := S1024) (k0_off3 t1 k) S16.size (k0_off3_inb t1 k)).toLoadRect Z)) :
    Rows t1.val (k.val + 1) X g' S Z := by
  intro j p hj hp
  have ht : k0_t3_loop.trips = 64 := by decide +kernel
  rw [ht] at hg'
  by_cases h : (j 0).val < 4096 * k.val
  · rw [(hg' j).1 h]; exact hg j p h hp
  · have hl : (p 0).val = 64 * t1.val + 16 * k.val + (lane j 0).val := by
      show _ = 64 * t1.val + 16 * k.val + (j 0).val % 16
      rw [hp]; omega
    rw [(hg' j).2 (by omega) (by omega), load_apply S t1 k (lane j) p hl]
    exact congrArg (quant1 (X j) (S p)) (load_apply Z t1 k (lane j) p hl)

/-- The inner loop's invariant: the chunk's inputs as fetched, the row filled up to the trip. -/
def inv3 (t2 : ℕ) (X : Buf (Elt F) ((xB).view.loc (V d (cV L) (jV L)))) (g0 : Buf (Elt F) ((oB).view.loc (V d (cV L) (jV L)))) (s z : Vec F S16 .f32) (k : ℕ) (_ : PUnit) : sProp 𝕄 :=
  iprop(((xB).view.loc (V d (cV L) (jV L)) ↦{fullShare} X)
    ∗ ∃ g : Buf (Elt F) ((oB).view.loc (V d (cV L) (jV L))), ⌜Filled t2 k X g0 g s z⌝ ∗ (oB).view.loc (V d (cV L) (jV L)) ↦{fullShare} g)

/-- One trip of the inner loop fills sixty-four more elements of the row. -/
theorem step3 (t2 : Fin k0_t2_loop.trips) (k : Fin k0_t3_loop.trips) (w : BitVec 32)
    (X : Buf (Elt F) ((xB).view.loc (V d (cV L) (jV L)))) (g0 : Buf (Elt F) ((oB).view.loc (V d (cV L) (jV L)))) (s z : Vec F S16 .f32) (acc : PUnit) :
    inv3 d L t2.val X g0 s z k.val acc
      ⊢ wp frame (wpE (defs₀ (F := F)) 𝒱₀ (V d (cV L) (jV L)) none) Set.univ
          (k0_t3_body L xV (Memref.isWhole_whole _) sV (Memref.isWhole_whole _) zV (Memref.isWhole_whole _) oV (Memref.isWhole_whole _)
            xB (Memref.isWhole_whole _) oB (Memref.isWhole_whole _) sB (Memref.isWhole_whole _) zB (Memref.isWhole_whole _)
            cc0_scoped0 cc0_scoped1 cc0_scoped2 cc0_scoped3 t2 w s z k acc)
          fun r => inv3 d L t2.val X g0 s z (k.val + 1) r := by
  unfold k0_t3_body
  simp only [k0_part1_eq_skeleton, k0_part2_eq_skeleton]; unfold k0_part1_skel k0_part2_skel
  unfold inv3
  iintro ⟨Hx, %g, %hg, Ho⟩
  sl_exec
  sl_step
  isplitl [Hx]; · iexact Hx
  iexists _
  isplitr
  swap
  · iexact Ho
  ipureintro
  sl_unfold_run_names
  simp only [first_eq, second_eq, third_eq, fourth_eq]
  refine filled_step hg _ fun j => ?_
  rw [store_apply X g s z (off := k0_off4 t2 k 3#32) _ _ _ (k0_off4_eq t2 k 3) (by simp; omega), store_apply X g s z (off := k0_off4 t2 k 2#32) _ _ _ (k0_off4_eq t2 k 2) (by simp; omega),
    store_apply X g s z (off := k0_off4 t2 k 1#32) _ _ _ (k0_off4_eq t2 k 1) (by simp; omega), store_apply X g s z (off := k0_off4 t2 k 0#32) _ _ _ (k0_off4_eq t2 k 0) (by simp; omega)]
  simp only [Fin.val_ofNat]
  show (if _ then _ else if _ then _ else if _ then _ else if _ then _ else g j) = _
  split_ifs <;> first | rfl | (exfalso; omega)

/-- The rows loop's invariant: the chunk's inputs as fetched, the first `k` rows of the output quantized, row `r` by the
    scales and zero points at `64 * t1 + 16 * r` of the tile's own. -/
def inv2 (t1 : ℕ) (X : Buf (Elt F) ((xB).view.loc (V d (cV L) (jV L)))) (S : Buf (Elt F) ((sB).view.loc (V d (cV L) (jV L))))
    (Z : Buf (Elt F) ((zB).view.loc (V d (cV L) (jV L)))) (k : ℕ) (_ : PUnit) : sProp 𝕄 :=
  iprop(((xB).view.loc (V d (cV L) (jV L)) ↦{fullShare} X) ∗ ((sB).view.loc (V d (cV L) (jV L)) ↦{fullShare} S)
    ∗ ((zB).view.loc (V d (cV L) (jV L)) ↦{fullShare} Z)
    ∗ ∃ g : Buf (Elt F) ((oB).view.loc (V d (cV L) (jV L))), ⌜Rows t1 k X g S Z⌝ ∗ (oB).view.loc (V d (cV L) (jV L)) ↦{fullShare} g)

/-- One trip of the rows loop quantizes one more row of the chunk. -/
theorem step2 (t1 : Fin k0_t1_loop.trips) (k : Fin k0_t2_loop.trips) (X : Buf (Elt F) ((xB).view.loc (V d (cV L) (jV L))))
    (S : Buf (Elt F) ((sB).view.loc (V d (cV L) (jV L)))) (Z : Buf (Elt F) ((zB).view.loc (V d (cV L) (jV L)))) (acc : PUnit) :
    inv2 d L t1.val X S Z k.val acc
      ⊢ wp frame (wpE (defs₀ (F := F)) 𝒱₀ (V d (cV L) (jV L)) none) Set.univ
          (k0_t2_body L xV (Memref.isWhole_whole _) sV (Memref.isWhole_whole _) zV (Memref.isWhole_whole _) oV (Memref.isWhole_whole _)
            xB (Memref.isWhole_whole _) oB (Memref.isWhole_whole _) sB (Memref.isWhole_whole _) zB (Memref.isWhole_whole _)
            cc0_scoped0 cc0_scoped1 cc0_scoped2 cc0_scoped3 t1 k acc)
          fun r => inv2 d L t1.val X S Z (k.val + 1) r := by
  unfold k0_t2_body inv2
  iintro ⟨Hx, Hs, Hz, %g, %hg, Ho⟩
  sl_exec
  sl_for (inv3 d L k.val X g ((View.whole cc0_scratch2).readAt (Elt F) (Rect.unit (s := S1024) (k0_off3 t1 k) S16.size (k0_off3_inb t1 k)).toLoadRect S) ((View.whole cc0_scratch3).readAt (Elt F) (Rect.unit (s := S1024) (k0_off3 t1 k) S16.size (k0_off3_inb t1 k)).toLoadRect Z)) $$ [Hx Ho]
  case region =>
    intro k' acc'
    exact step3 d L k k' _ X g _ _ acc'
  · unfold inv3
    isplitl [Hx]; · iexact Hx
    iexists g; isplitr
    · ipureintro; exact filled_zero _ _ _ _ _
    · iexact Ho
  iintro %_ HI
  unfold inv3
  icases HI with ⟨Hx, %g', %hg', Ho⟩
  sl_exec
  sl_step
  isplitl [Hx]; · iexact Hx
  isplitl [Hs]; · iexact Hs
  isplitl [Hz]; · iexact Hz
  iexists g'; isplitr
  · ipureintro; exact rows_step hg hg'
  · iexact Ho

/-- The first element of the tile's region of the arrays. -/
def base (L : grid0.Coords) : ℕ := 524288 * (L 1).val + 262144 * (L 0).val

/-- The tile's region of the output: 262144 elements from its base. -/
def region (b : ℕ) : Finset S8388608.Idx := Finset.univ.filter fun j => b ≤ (j 0).val ∧ (j 0).val < b + 262144

/-- An index is in the region where its position is. -/
theorem mem_region {b : ℕ} {j : S8388608.Idx} : j ∈ region b ↔ b ≤ (j 0).val ∧ (j 0).val < b + 262144 := by
  unfold region; rw [Finset.mem_filter]; exact ⟨fun h => h.2, fun h => ⟨Finset.mem_univ _, h⟩⟩

/-- Membership in a stretch of a one-axis array. -/
theorem mem_unit1 {n m o : ℕ} {off : Fin 1 → ℕ} (h : off = ![o]) (inb : ∀ a, off a + ![m] a ≤ (⟨1, ![n]⟩ : Shape).size a)
    (j : (⟨1, ![n]⟩ : Shape).Idx) :
    j ∈ (Rect.unit (s := (⟨1, ![n]⟩ : Shape)) off ![m] inb).set ↔ o ≤ (j 0).val ∧ (j 0).val < o + m := by
  subst h
  exact Rect.mem_set_unit.trans ⟨fun h => h 0, fun h a => match a with | 0 => h⟩

/-- The chunk a trip writes, as the tile addresses it. -/
abbrev oChunk (t1 : Fin k0_t1_loop.trips) : Memref sig .scVector .hbm S16384 .f32 :=
  (oV).slice (Rect.unit (s := S8388608) (k0_off2 L t1) S16384.size (k0_off2_inb L t1)) (fun _ => rfl)

/-- An index is in the chunk that a trip writes where its position is. -/
theorem mem_oChunk {t1 : Fin k0_t1_loop.trips} {j : S8388608.Idx} :
    j ∈ (oChunk L t1).view.set ↔ base L + 16384 * t1.val ≤ (j 0).val ∧ (j 0).val < base L + 16384 * (t1.val + 1) := by
  have hs : (oChunk L t1).view.set = (Rect.unit (s := S8388608) (k0_off2 L t1) S16384.size (k0_off2_inb L t1)).set := View.set_slice_whole _ _
  rw [hs]
  refine (mem_unit1 (n := 8388608) (m := 16384) (k0_off2_eq L t1) _ j).trans ?_
  unfold base
  rw [Nat.mul_succ, ← Nat.add_assoc]

/-- A trip's chunk lies in the tile's region. -/
theorem oChunk_subset (t1 : Fin k0_t1_loop.trips) : (oChunk L t1).view.set ⊆ region (base L) := by
  intro j hj
  rw [mem_oChunk] at hj
  rw [mem_region]
  have : t1.val < 16 := Nat.lt_of_lt_of_le t1.isLt k0_t1_abs.2.1
  omega

/-- The first `n` elements of the tile's region of the output quantized: element `j` of `xs` by the scale and the zero
    point at `16 * (j / 4096) + j % 16` of the tiled ones. -/
def Done (b n : ℕ) (xs f : S8388608.Idx → F .f32) (ss zs : S32768.Idx → F .f32) : Prop :=
  ∀ (j : S8388608.Idx) (p : S32768.Idx), b ≤ (j 0).val → (j 0).val < b + n → (p 0).val = 16 * ((j 0).val / 4096) + (j 0).val % 16 →
    f j = quant1 (xs j) (ss p) (zs p)

/-- A tile's 1024 scales (or zero points) are the tiled array's from its own place on. -/
def Fetched (L : grid0.Coords) (S : S1024.Idx → F .f32) (ss : S32768.Idx → F .f32) : Prop :=
  ∀ (y : S1024.Idx) (p : S32768.Idx), (p 0).val = 2048 * (L 1).val + 1024 * (L 0).val + (y 0).val → S y = ss p

/-- The chunk a trip reads, as the tile addresses it. -/
abbrev xChunk (t1 : Fin k0_t1_loop.trips) : Memref sig .scVector .hbm S16384 .f32 :=
  (xV).slice (Rect.unit (s := S8388608) (k0_off2 L t1) S16384.size (k0_off2_inb L t1)) (fun _ => rfl)

/-- Position `y` of a chunk is this element of the array. -/
theorem chunk_at (t1 : Fin k0_t1_loop.trips) (y : S16384.Idx) (j : S8388608.Idx) (hj : (j 0).val = base L + 16384 * t1.val + (y 0).val) :
    (Rect.unit (s := S8388608) (k0_off2 L t1) S16384.size (k0_off2_inb L t1)).emb y = j := by
  funext a
  refine Fin.ext ?_
  match a with
  | 0 =>
    show k0_off2 L t1 0 + 1 * (y 0).val = (j 0).val
    rw [k0_off2_eq, hj]; simp [base]

/-- A chunk quantized in the tile's buffer and copied to its place extends the finished part of the region. -/
theorem done_step {t1 : Fin k0_t1_loop.trips} {xs f f' : S8388608.Idx → F .f32} {ss zs : S32768.Idx → F .f32} {S Z : S1024.Idx → F .f32}
    {g : S16384.Idx → F .f32} (hS : Fetched L S ss) (hZ : Fetched L Z zs) (hf : Done (base L) (16384 * t1.val) xs f ss zs)
    (hg : Rows t1.val k0_t2_loop.trips ((xChunk L t1).view.read (Elt F) xs) g S Z) (hf' : ∀ y, f' ((oChunk L t1).view.emb y) = g y) :
    Done (base L) (16384 * (t1.val + 1)) xs ((oChunk L t1).view.set.piecewise f' f) ss zs := by
  intro j p hb hj hp
  have ht : k0_t2_loop.trips = 4 := by decide +kernel
  have h1 : t1.val < 16 := Nat.lt_of_lt_of_le t1.isLt k0_t1_abs.2.1
  rw [ht] at hg
  have hm := mem_oChunk L (t1 := t1) (j := j)
  generalize hn : (j 0).val = n at hb hj hp hm
  by_cases h : base L + 16384 * t1.val ≤ n
  · have hm := hm.2 ⟨h, hj⟩
    rw [Finset.piecewise_eq_of_mem _ _ _ hm]
    obtain ⟨v, hv⟩ : ∃ v, n = base L + 16384 * t1.val + v := ⟨n - (base L + 16384 * t1.val), by omega⟩
    have hv' : v < 16384 := by omega
    let y : S16384.Idx := ValueIdx.ix1 ⟨v, hv'⟩
    have hy : (y 0).val = v := rfl
    have hjy : (j 0).val = base L + 16384 * t1.val + (y 0).val := by rw [hn, hv, hy]
    let r : S1024.Idx := ValueIdx.ix1 ⟨64 * t1.val + 16 * (v / 4096) + v % 16, by omega⟩
    have hr : (r 0).val = 64 * t1.val + 16 * (v / 4096) + v % 16 := rfl
    have hpr : (p 0).val = 2048 * (L 1).val + 1024 * (L 0).val + (r 0).val := by
      rw [hp, hr, hv]; unfold base; omega
    have hw : f' j = g y := by
      have := hf' y
      rwa [show (oChunk L t1).view.emb y = j from chunk_at L t1 y j hjy] at this
    have hx : (xChunk L t1).view.read (Elt F) xs y = xs j := by
      show xs _ = xs j
      exact congrArg xs (chunk_at L t1 y j hjy)
    rw [hw, hg y r (by rw [hy]; omega) hr, hx, hS r p hpr, hZ r p hpr]
  · have hm : j ∉ (oChunk L t1).view.set := fun hm' => h (hm.1 hm').1
    rw [Finset.piecewise_eq_of_notMem _ _ _ hm]
    exact hf j p (by omega) (by omega) (by rw [hn]; exact hp)

/-- The chunks loop's invariant on a tile: the tile's share of the input, its scales and zero points as fetched, its two
    chunk buffers at some contents, its two semaphores at zero, its region of the output finished up to chunk `k`. -/
def inv1 (q : PosShare TreeShare) (xs : Buf (Elt F) ((xV).view.loc (V d (cV L) (jV L)))) (ss zs : S32768.Idx → F .f32)
    (S : Buf (Elt F) ((sB).view.loc (V d (cV L) (jV L)))) (Z : Buf (Elt F) ((zB).view.loc (V d (cV L) (jV L))))
    (O : CellTallies nD τ sig (HIx 1)) (W : Waits sig (HIx 1)) (k : ℕ) (_ : PUnit) : sProp 𝕄 :=
  iprop(Transfers.MayWaits (V d (cV L) (jV L)) (none : HIx 1) O
    ∗ ((xV).view.loc (V d (cV L) (jV L)) ↦{q} xs)
    ∗ ((sB).view.loc (V d (cV L) (jV L)) ↦{fullShare} S)
    ∗ ((zB).view.loc (V d (cV L) (jV L)) ↦{fullShare} Z)
    ∗ (∃ X, (xB).view.loc (V d (cV L) (jV L)) ↦{fullShare} X)
    ∗ (∃ g, (oB).view.loc (V d (cV L) (jV L)) ↦{fullShare} g)
    ∗ semVal (V d (cV L) (jV L), SemLoc.dma cc0_scoped2.sem) 0
    ∗ semVal (V d (cV L) (jV L), SemLoc.dma cc0_scoped3.sem) 0
    ∗ (∃ f : Buf (Elt F) ((oV).view.loc (V d (cV L) (jV L))), ⌜Done (base L) (16384 * k) xs f ss zs⌝
        ∗ (oV).view.loc (V d (cV L) (jV L)) ↦[region (base L)]{fullShare} f)
    ∗ ∃ W', ⌜∀ p ∈ W', p ∈ W ∨ p.2 = none⌝ ∗ owes (V d (cV L) (jV L)) O W')

/-- One trip of the chunks loop finishes one more chunk of the region. -/
theorem step1 (q : PosShare TreeShare) (xs : Buf (Elt F) ((xV).view.loc (V d (cV L) (jV L)))) (ss zs : S32768.Idx → F .f32)
    (S : Buf (Elt F) ((sB).view.loc (V d (cV L) (jV L)))) (Z : Buf (Elt F) ((zB).view.loc (V d (cV L) (jV L))))
    (hS : Fetched L S ss) (hZ : Fetched L Z zs) (O : CellTallies nD τ sig (HIx 1)) (W : Waits sig (HIx 1))
    (k : Fin k0_t1_loop.trips) (acc : PUnit) :
    inv1 d L q xs ss zs S Z O W k.val acc
      ⊢ wp frame (wpE (defs₀ (F := F)) 𝒱₀ (V d (cV L) (jV L)) none) Set.univ
          (k0_t1_body L xV (Memref.isWhole_whole _) sV (Memref.isWhole_whole _) zV (Memref.isWhole_whole _) oV (Memref.isWhole_whole _)
            xB (Memref.isWhole_whole _) oB (Memref.isWhole_whole _) sB (Memref.isWhole_whole _) zB (Memref.isWhole_whole _)
            cc0_scoped0 cc0_scoped1 cc0_scoped2 cc0_scoped3 k acc)
          fun r => inv1 d L q xs ss zs S Z O W (k.val + 1) r := by
  unfold k0_t1_body inv1
  iintro ⟨Hmw, Hx, Hs, Hz, ⟨%X₀, HX⟩, ⟨%g₀, Hg⟩, Hsem2, Hsem3, ⟨%f, %hf, Ho⟩, %W', %hW', HO⟩
  ihave Ho' := (pointsTo_split_subset (q := fullShare) (f := f) (oChunk_subset L k)).1 $$ Ho
  icases Ho' with ⟨Hc, Hr⟩
  sl_exec (disch := exact View.amount_pos _ _ (show 0 < S16384.numel by decide))
  ihave HX' := (Entails.of_eq (show ((xB).view.loc (V d (cV L) (jV L)) ↦{fullShare} View.write (Elt F) (xB).view X₀ (step1.sl.dma0 d L xs k) Finset.univ : sProp 𝕄)
      = (xB).view.loc (V d (cV L) (jV L)) ↦{fullShare} ((xChunk L k).view.read (Elt F) xs : S16384.Idx → F .f32)
      from congrArg _ (View.write_whole_univ _ _ _))) $$ HX
  sl_for (inv2 d L k.val ((xChunk L k).view.read (Elt F) xs : S16384.Idx → F .f32) S Z) $$ [HX' Hs Hz Hg]
  case region =>
    intro k' acc'
    exact step2 d L k k' _ S Z acc'
  · unfold inv2
    isplitl [HX']; · iexact HX'
    isplitl [Hs]; · iexact Hs
    isplitl [Hz]; · iexact Hz
    iexists g₀; isplitr
    · ipureintro; intro j p h; exact absurd h (by omega)
    · iexact Hg
  iintro %_ HI
  unfold inv2
  icases HI with ⟨HX, Hs, Hz, %g, %hg, Hg⟩
  ihave Hc' := (Entails.of_eq (show ((oV).view.loc (V d (cV L) (jV L)) ↦[(oChunk L k).view.set]{fullShare} f : sProp 𝕄)
      = (oChunk L k).view.loc (V d (cV L) (jV L)) ↦[(oChunk L k).view.set]{fullShare} f from rfl)) $$ Hc
  sl_exec (disch := exact View.amount_pos _ _ (show 0 < S16384.numel by decide))
  sl_step
  isplitl [Hmw]; · iexact Hmw
  isplitl [Hx]; · iexact Hx
  isplitl [Hs]; · iexact Hs
  isplitl [Hz]; · iexact Hz
  isplitl [HX]; · iexists _; iexact HX
  isplitl [Hg]; · iexists _; iexact Hg
  isplitl [Hsem2]; · iexact Hsem2
  isplitl [Hsem3]; · iexact Hsem3
  isplitl [Hc' Hr]
  · iexists _
    isplitr
    swap
    · iapply (pointsTo_join_subset (q := fullShare) (oChunk_subset L k))
      isplitl [Hc']
      · iexact Hc'
      · iexact Hr
    ipureintro
    refine done_step L hS hZ hf hg fun y => ?_
    sl_unfold_run_names
    have hr := View.read_writes_cons_emb (oChunk L k).view f (Rect.whole S16384) g [] y
    rw [Rect.emb_whole_apply, View.read_apply, cast_eq] at hr
    exact hr
  iexists _; isplitr
  swap
  · iexact HO
  ipureintro
  intro p hp
  rcases Finset.mem_insert.mp hp with hp | hp
  · exact .inr (hp ▸ rfl)
  rcases Finset.mem_insert.mp hp with hp | hp
  · exact .inr (hp ▸ rfl)
  · exact hW' p hp

/-- Where an element's scale and zero point stand in the tiled arrays. -/
def scaleAt (j : S8388608.Idx) : S32768.Idx :=
  ValueIdx.ix1 ⟨16 * ((j 0).val / 4096) + (j 0).val % 16, by have h : (j 0).val < 8388608 := (j 0).isLt; omega⟩

/-- The call's result: every element quantized by its own scale and zero point. -/
def outVal (xs : S8388608.Idx → F .f32) (ss zs : S32768.Idx → F .f32) : S8388608.Idx → F .f32 :=
  fun j => quant1 (xs j) (ss (scaleAt j)) (zs (scaleAt j))

/-- A finished region holds the call's result. -/
theorem done_eq {b : ℕ} {xs f : S8388608.Idx → F .f32} {ss zs : S32768.Idx → F .f32} (hf : Done b (16384 * k0_t1_loop.trips) xs f ss zs) :
    ∀ j ∈ region b, f j = outVal xs ss zs j := by
  intro j hj
  have ht : k0_t1_loop.trips = 16 := by decide +kernel
  rw [ht] at hf
  obtain ⟨h, h'⟩ := mem_region.1 hj
  exact hf j (scaleAt j) h h' rfl

end Body

end Cert.KernelIdeal.Tile
-- ==== Proof.BodyIdeal.lean ====
/-
  The whole body of one tile (`tile_body`): from a share of the call's inputs and its own region of the output, it fetches its
  scales and zero points, runs the chunks loop, and hands its region back quantized, with its buffers and semaphores as they
  were lent.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.WritesUnit
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.TileIdeal

@[expose] public section

noncomputable section

namespace Cert.KernelIdeal.Body

open Cert.KernelIdeal Cert.KernelIdeal.Gen Cert.KernelIdeal.Quant Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "xV" => (Memref.whole Cert.KernelIdeal.main_v8_scv : Memref Cert.KernelIdeal.sig Kind.scVector Space.hbm Cert.KernelIdeal.S8388608 EltTy.f32)
local notation "sV" => (Memref.whole Cert.KernelIdeal.main_v3_scv : Memref Cert.KernelIdeal.sig Kind.scVector Space.hbm Cert.KernelIdeal.S32768 EltTy.f32)
local notation "zV" => (Memref.whole Cert.KernelIdeal.main_v7_scv : Memref Cert.KernelIdeal.sig Kind.scVector Space.hbm Cert.KernelIdeal.S32768 EltTy.f32)
local notation "oV" => (Memref.whole Cert.KernelIdeal.main_v9_scv : Memref Cert.KernelIdeal.sig Kind.scVector Space.hbm Cert.KernelIdeal.S8388608 EltTy.f32)
local notation "xB" => (Memref.whole Cert.KernelIdeal.cc0_scratch0 : Memref Cert.KernelIdeal.sig Kind.scVector Space.vmem Cert.KernelIdeal.S16384 EltTy.f32)
local notation "oB" => (Memref.whole Cert.KernelIdeal.cc0_scratch1 : Memref Cert.KernelIdeal.sig Kind.scVector Space.vmem Cert.KernelIdeal.S16384 EltTy.f32)
local notation "sB" => (Memref.whole Cert.KernelIdeal.cc0_scratch2 : Memref Cert.KernelIdeal.sig Kind.scVector Space.vmem Cert.KernelIdeal.S1024 EltTy.f32)
local notation "zB" => (Memref.whole Cert.KernelIdeal.cc0_scratch3 : Memref Cert.KernelIdeal.sig Kind.scVector Space.vmem Cert.KernelIdeal.S1024 EltTy.f32)

section Body

variable (d : Dev nD) (L : grid0.Coords)

/-- The tile's four semaphores. -/
abbrev tileCells : Finset (GSem nD τ sig) :=
  {(V d (cV L) (jV L), .dma cc0_scoped0.sem), (V d (cV L) (jV L), .dma cc0_scoped1.sem), (V d (cV L) (jV L), .dma cc0_scoped2.sem),
    (V d (cV L) (jV L), .dma cc0_scoped3.sem)}

/-- The tile is lent its four semaphores, at zero. -/
theorem ownSems0_V :
    (ownSems0 (V d (cV L) (jV L)) : sProp 𝕄)
      = iprop((semVal (V d (cV L) (jV L), .dma cc0_scoped0.sem) 0 ∗ semVal (V d (cV L) (jV L), .dma cc0_scoped1.sem) 0
            ∗ semVal (V d (cV L) (jV L), .dma cc0_scoped2.sem) 0 ∗ semVal (V d (cV L) (jV L), .dma cc0_scoped3.sem) 0)
          ∗ bigSep (ownCells (V d (cV L) (jV L)) \ tileCells d L) fun g => semVal g 0) := by
  unfold SparseCore.Cfg.ownSems0
  have h : tileCells d L ⊆ ownCells (V d (cV L) (jV L)) := by
    intro g hg
    simp only [Finset.mem_insert, Finset.mem_singleton] at hg
    rcases hg with rfl | rfl | rfl | rfl
    · exact mem_ownCells.mpr ⟨rfl, by show (SemLoc.dma cc0_scoped0.sem : SemLoc sig).isScoped .scVector = true; decide⟩
    · exact mem_ownCells.mpr ⟨rfl, by show (SemLoc.dma cc0_scoped1.sem : SemLoc sig).isScoped .scVector = true; decide⟩
    · exact mem_ownCells.mpr ⟨rfl, by show (SemLoc.dma cc0_scoped2.sem : SemLoc sig).isScoped .scVector = true; decide⟩
    · exact mem_ownCells.mpr ⟨rfl, by show (SemLoc.dma cc0_scoped3.sem : SemLoc sig).isScoped .scVector = true; decide⟩
  rw [SparseCore.bigSep_sdiff_split' h, SparseCore.bigSep_insert' (by simp; decide), SparseCore.bigSep_insert' (by simp; decide),
    SparseCore.bigSep_insert' (by simp; decide), bigSep_singleton]

/-- The tile's four buffers. -/
abbrev tileRefs : Finset (DevRef τ sig) :=
  {(Proc.scVector (cV L) (jV L)).devRef cc0_scratch0, (Proc.scVector (cV L) (jV L)).devRef cc0_scratch1,
    (Proc.scVector (cV L) (jV L)).devRef cc0_scratch2, (Proc.scVector (cV L) (jV L)).devRef cc0_scratch3}

/-- Two buffers of a tile that differ are different places. -/
theorem devRef_ne {a b : Ref sig .scVector} (h : a ≠ b) :
    (Proc.scVector (cV L) (jV L)).devRef a ≠ (Proc.scVector (cV L) (jV L)).devRef b := fun e => h (Proc.devRef_injective _ e)

/-- The tile is lent its four buffers, whatever they hold. -/
theorem ownBufs_V :
    (ownBufs (V d (cV L) (jV L)) : sProp 𝕄)
      = iprop(((∃ f, (V d (cV L) (jV L)).loc cc0_scratch0 ↦{fullShare} f) ∗ (∃ f, (V d (cV L) (jV L)).loc cc0_scratch1 ↦{fullShare} f)
            ∗ (∃ f, (V d (cV L) (jV L)).loc cc0_scratch2 ↦{fullShare} f) ∗ (∃ f, (V d (cV L) (jV L)).loc cc0_scratch3 ↦{fullShare} f))
          ∗ bigSep (ownRefs (τ := τ) (.scVector (cV L) (jV L)) \ tileRefs L) fun b => iprop(∃ f, ((d, b) : Loc nD τ sig) ↦{fullShare} f)) := by
  unfold SparseCore.Cfg.ownBufs
  have h : tileRefs L ⊆ ownRefs (τ := τ) (.scVector (cV L) (jV L)) := by
    intro b hb
    simp only [Finset.mem_insert, Finset.mem_singleton] at hb
    rcases hb with rfl | rfl | rfl | rfl <;> exact SparseCore.Cfg.mem_ownRefs_of_owner (p := Proc.scVector (cV L) (jV L)) rfl
  have h01 := devRef_ne L (a := cc0_scratch0) (b := cc0_scratch1) (by decide)
  have h02 := devRef_ne L (a := cc0_scratch0) (b := cc0_scratch2) (by decide)
  have h03 := devRef_ne L (a := cc0_scratch0) (b := cc0_scratch3) (by decide)
  have h12 := devRef_ne L (a := cc0_scratch1) (b := cc0_scratch2) (by decide)
  have h13 := devRef_ne L (a := cc0_scratch1) (b := cc0_scratch3) (by decide)
  have h23 := devRef_ne L (a := cc0_scratch2) (b := cc0_scratch3) (by decide)
  refine (SparseCore.bigSep_sdiff_split' h).trans ?_
  rw [SparseCore.bigSep_insert' (by simp only [Finset.mem_insert, Finset.mem_singleton, not_or]; exact ⟨h01, h02, h03⟩),
    SparseCore.bigSep_insert' (by simp only [Finset.mem_insert, Finset.mem_singleton, not_or]; exact ⟨h12, h13⟩),
    SparseCore.bigSep_insert' (by simp only [Finset.mem_singleton]; exact h23), bigSep_singleton]

/-- The call's arrays: the input, the tiled scales and zero points, the result. -/
abbrev xLoc (d : Dev nD) : Loc nD τ sig := (SparseCore.T d).loc main_v8
abbrev sLoc (d : Dev nD) : Loc nD τ sig := (SparseCore.T d).loc main_v3
abbrev zLoc (d : Dev nD) : Loc nD τ sig := (SparseCore.T d).loc main_v7
abbrev oLoc (d : Dev nD) : Loc nD τ sig := (SparseCore.T d).loc main_v9

/-- The call's input, as the tile names it, is the call's input. -/
theorem pts_x (q : PosShare TreeShare) (f : Buf (Elt F) (xLoc d)) :
    ((xV).view.loc (V d (cV L) (jV L)) ↦{q} f : sProp 𝕄) = xLoc d ↦{q} f := rfl
/-- So for the scales, -/
theorem pts_s (q : PosShare TreeShare) (f : Buf (Elt F) (sLoc d)) :
    ((sV).view.loc (V d (cV L) (jV L)) ↦{q} f : sProp 𝕄) = sLoc d ↦{q} f := rfl
/-- the zero points -/
theorem pts_z (q : PosShare TreeShare) (f : Buf (Elt F) (zLoc d)) :
    ((zV).view.loc (V d (cV L) (jV L)) ↦{q} f : sProp 𝕄) = zLoc d ↦{q} f := rfl
/-- and the output. -/
theorem pts_o (I : Finset S8388608.Idx) (f : Buf (Elt F) (oLoc d)) :
    ((oV).view.loc (V d (cV L) (jV L)) ↦[I]{fullShare} f : sProp 𝕄) = oLoc d ↦[I]{fullShare} f := rfl
/-- The tile's first buffer, as the kernel's body names it, is that buffer. -/
theorem pts_b0 (f : Buf (Elt F) ((V d (cV L) (jV L)).loc cc0_scratch0)) :
    ((xB).view.loc (V d (cV L) (jV L)) ↦{fullShare} f : sProp 𝕄) = (V d (cV L) (jV L)).loc cc0_scratch0 ↦{fullShare} f := rfl
/-- So the second, -/
theorem pts_b1 (f : Buf (Elt F) ((V d (cV L) (jV L)).loc cc0_scratch1)) :
    ((oB).view.loc (V d (cV L) (jV L)) ↦{fullShare} f : sProp 𝕄) = (V d (cV L) (jV L)).loc cc0_scratch1 ↦{fullShare} f := rfl
/-- the third -/
theorem pts_b2 (f : Buf (Elt F) ((V d (cV L) (jV L)).loc cc0_scratch2)) :
    ((sB).view.loc (V d (cV L) (jV L)) ↦{fullShare} f : sProp 𝕄) = (V d (cV L) (jV L)).loc cc0_scratch2 ↦{fullShare} f := rfl
/-- and the fourth. -/
theorem pts_b3 (f : Buf (Elt F) ((V d (cV L) (jV L)).loc cc0_scratch3)) :
    ((zB).view.loc (V d (cV L) (jV L)) ↦{fullShare} f : sProp 𝕄) = (V d (cV L) (jV L)).loc cc0_scratch3 ↦{fullShare} f := rfl

/-- The scales and the zero points of the tile's 64 rows. -/
abbrev fetchS := (sV).slice (Rect.unit (s := S32768) (k0_off1 L) S1024.size (k0_off1_inb L)) (fun _ => rfl)
abbrev fetchZ := (zV).slice (Rect.unit (s := S32768) (k0_off1 L) S1024.size (k0_off1_inb L)) (fun _ => rfl)

/-- What a tile reads of a tiled array from its own place on are its 1024 words. -/
theorem fetched_emb (ss : S32768.Idx → F .f32) (S : S1024.Idx → F .f32)
    (h : ∀ y, S y = ss ((Rect.unit (s := S32768) (k0_off1 L) S1024.size (k0_off1_inb L)).emb y)) : Fetched L S ss := by
  intro y p hp
  rw [h y]
  congr 1
  funext a
  refine Fin.ext ?_
  match a with
  | 0 =>
    show k0_off1 L 0 + 1 * (y 0).val = (p 0).val
    rw [k0_off1_eq, hp]; simp

/-- So for the scales, -/
theorem fetchedS (ss : S32768.Idx → F .f32) : Fetched L ((fetchS L).view.read (Elt F) ss : S1024.Idx → F .f32) ss :=
  fetched_emb L ss _ fun y => (View.read_apply _ _).trans (cast_eq _ _)
/-- and for the zero points. -/
theorem fetchedZ (zs : S32768.Idx → F .f32) : Fetched L ((fetchZ L).view.read (Elt F) zs : S1024.Idx → F .f32) zs :=
  fetched_emb L zs _ fun y => (View.read_apply _ _).trans (cast_eq _ _)

/-- Before the first chunk nothing of the region is asked. -/
theorem done_zero (b : ℕ) (xs f : S8388608.Idx → F .f32) (ss zs : S32768.Idx → F .f32) : Done b (16384 * 0) xs f ss zs := by
  intro j p h1 h2 _
  omega

/-- What a tile is handed: a read share of the three inputs, and its region of the result. -/
abbrev goPts (q : PosShare TreeShare) (b : ℕ) (xs : Buf (Elt F) (xLoc d)) (ss : Buf (Elt F) (sLoc d)) (zs : Buf (Elt F) (zLoc d))
    (o₀ : Buf (Elt F) (oLoc d)) : sProp 𝕄 :=
  iprop((xLoc d ↦{q} xs) ∗ (sLoc d ↦{q} ss) ∗ (zLoc d ↦{q} zs) ∗ oLoc d ↦[region b]{fullShare} o₀)

/-- What a tile hands back: its region, quantized. -/
abbrev tdPts (b : ℕ) (xs : Buf (Elt F) (xLoc d)) (ss : Buf (Elt F) (sLoc d)) (zs : Buf (Elt F) (zLoc d)) : sProp 𝕄 :=
  oLoc d ↦[region b]{fullShare} (outVal xs ss zs : Buf (Elt F) (oLoc d))

/-- A tile's body, from what it is handed to what it hands back: its region of the output is quantized, its buffers and
    semaphores are given up as they were lent, and it owes what it owed. -/
theorem tile_body (hF : (K (F := F)).Facts) (q : PosShare TreeShare) (xs : Buf (Elt F) (xLoc d)) (ss : Buf (Elt F) (sLoc d))
    (zs : Buf (Elt F) (zLoc d)) (o₀ : Buf (Elt F) (oLoc d)) (O : CellTallies nD τ sig (HIx 1)) (W : Waits sig (HIx 1)) (hO : ∀ g, O g none = 0) :
    iprop(levAts (K (F := F)).L (K (F := F)).lev ∗ emp
        ∗ goPts d q (base L) xs ss zs o₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__quantize_sc L xV (Memref.isWhole_whole _) sV (Memref.isWhole_whole _) zV (Memref.isWhole_whole _) oV (Memref.isWhole_whole _)
            xB (Memref.isWhole_whole _) oB (Memref.isWhole_whole _) sB (Memref.isWhole_whole _) zB (Memref.isWhole_whole _)
            cc0_scoped0 cc0_scoped1 cc0_scoped2 cc0_scoped3)
          fun _ => iprop(tdPts d (base L) xs ss zs
            ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc0__quantize_sc_eq_skeleton]; unfold cc0__quantize_sc_skel
  rw [(K (F := F)).scopedBufs_V hF d (cV L) (jV L), SparseCore.Cfg.scopedSems0_V (Val := Elt F) d (cV L) (jV L), ownSems0_V, ownBufs_V]
  iintro ⟨#Hlv, -, ⟨Hx, Hs, Hz, Ho⟩, ⟨⟨⟨%f0, H0⟩, ⟨%f1, H1⟩, ⟨%f2, H2⟩, ⟨%f3, H3⟩⟩, Hbufs⟩, ⟨⟨HsemA, HsemB, HsemC, HsemD⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_x (F := F) d L _ _).symm) $$ Hx
  ihave Hs' := (Entails.of_eq (pts_s (F := F) d L _ _).symm) $$ Hs
  ihave Hz' := (Entails.of_eq (pts_z (F := F) d L _ _).symm) $$ Hz
  ihave Ho' := (Entails.of_eq (pts_o (F := F) d L _ _).symm) $$ Ho
  ihave H0' := (Entails.of_eq (pts_b0 (F := F) d L _).symm) $$ H0
  ihave H1' := (Entails.of_eq (pts_b1 (F := F) d L _).symm) $$ H1
  ihave H2' := (Entails.of_eq (pts_b2 (F := F) d L _).symm) $$ H2
  ihave H3' := (Entails.of_eq (pts_b3 (F := F) d L _).symm) $$ H3
  sl_exec (disch := exact View.amount_pos _ _ (show 0 < S1024.numel by decide))
  ihave H2s := (Entails.of_eq (show ((sB).view.loc (V d (cV L) (jV L)) ↦{fullShare} View.write (Elt F) (sB).view f2 (tile_body.sl.dma0 d L ss) Finset.univ : sProp 𝕄)
      = (sB).view.loc (V d (cV L) (jV L)) ↦{fullShare} ((fetchS L).view.read (Elt F) ss : S1024.Idx → F .f32)
      from congrArg _ (View.write_whole_univ _ _ _))) $$ H2'
  ihave H3z := (Entails.of_eq (show ((zB).view.loc (V d (cV L) (jV L)) ↦{fullShare} View.write (Elt F) (zB).view f3 (tile_body.sl.dma0_1 d L zs) Finset.univ : sProp 𝕄)
      = (zB).view.loc (V d (cV L) (jV L)) ↦{fullShare} ((fetchZ L).view.read (Elt F) zs : S1024.Idx → F .f32)
      from congrArg _ (View.write_whole_univ _ _ _))) $$ H3'
  sl_for (inv1 d L q xs ss zs ((fetchS L).view.read (Elt F) ss : S1024.Idx → F .f32) ((fetchZ L).view.read (Elt F) zs : S1024.Idx → F .f32) O W)
    $$ [Hmw Hx' Ho' H0' H1' H2s H3z HsemC HsemD HO]
  case region =>
    intro k acc
    exact step1 d L q xs ss zs _ _ (fetchedS L ss) (fetchedZ L zs) O W k acc
  · unfold inv1
    isplitl [Hmw]; · iexact Hmw
    isplitl [Hx']; · iexact Hx'
    isplitl [H2s]; · iexact H2s
    isplitl [H3z]; · iexact H3z
    isplitl [H0']; · iexists _; iexact H0'
    isplitl [H1']; · iexists _; iexact H1'
    isplitl [HsemC]; · iexact HsemC
    isplitl [HsemD]; · iexact HsemD
    isplitl [Ho']
    · iexists o₀; isplitr [Ho']
      · ipureintro; exact done_zero (base L) xs o₀ ss zs
      · iexact Ho'
    iexists _; isplitr [HO]
    on_goal 2 => iexact HO
    ipureintro
    intro p hp
    rcases Finset.mem_insert.mp hp with rfl | hp
    · exact Or.inr rfl
    rcases Finset.mem_insert.mp hp with rfl | hp
    · exact Or.inr rfl
    exact Or.inl hp
  iintro %r HI
  unfold inv1
  icases HI with ⟨Hmw', Hx1, Hs1, Hz1, ⟨%X, HX⟩, ⟨%g, Hg⟩, HsemC', HsemD', ⟨%f, %hf, Hf⟩, %W', %hW', HO'⟩
  sl_exec
  rw [wp_ret]; imodintro
  ihave Hf' := (Entails.of_eq ((pts_o (F := F) d L _ _).trans (pointsTo_congr (done_eq hf)))) $$ Hf
  isplitl [Hf']; · iexact Hf'
  isplitl [HX Hg Hs1 Hz1 Hbufs]
  · isplitr [Hbufs]
    · isplitl [HX]; · iexists X; iexact HX
      isplitl [Hg]; · iexists g; iexact Hg
      isplitl [Hs1]; · iexists _; iexact Hs1
      iexists _; iexact Hz1
    iexact Hbufs
  isplitl [HsemA HsemB HsemC' HsemD' Hsems]
  · isplitr [Hsems]
    · isplitl [HsemA]; · iexact HsemA
      isplitl [HsemB]; · iexact HsemB
      isplitl [HsemC']; · iexact HsemC'
      iexact HsemD'
    iexact Hsems
  iexists W'; isplitr [HO']
  · ipureintro; exact hW'
  iexact HO'

end Body

end Cert.KernelIdeal.Body
-- ==== Proof.RunIdeal.lean ====
/-
  The whole program: the host operations that lay out the call's operands, the call on its 32 tiles, each with a share of the
  inputs and a region of the output, and the reshape of the result (`run_main`).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.WritesUnit
public import Idealize.ShloMosaic.Lib.ValueIdxCore
public import Idealize.ShloMosaic.Lib.Tactic
public import proofs.«01_k».proof.Proof.Gen.KernelIdeal
public import proofs.«01_k».proof.Proof.Gen.KernelIdeal.Skeleton
public import proofs.«01_k».proof.Proof.BodyIdeal

@[expose] public section

noncomputable section

namespace Cert.KernelIdeal.Run

open Cert.KernelIdeal Cert.KernelIdeal.Gen Cert.KernelIdeal.Quant Cert.KernelIdeal.Tile Cert.KernelIdeal.Body

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- What the launch asks of the call's own semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The host operations around the call -/

abbrev op0 : HloOp τ sig (Elt F) := StableHlo.reshape main_arg1 main_v0 (rfl : (.f32 : EltTy) = .f32) shapeCasts_S2048x1_S1x2048x1x1
abbrev op1 : HloOp τ sig (Elt F) := StableHlo.unary main_v0 main_v1 (broadcastInDim S1x2048x16x1 ![0, 1, 2, 3] bcast_S1x2048x1x1_S1x2048x16x1_0_1_2_3 : (⟨S1x2048x1x1, .f32⟩ : BufTy).Contents (Elt F) → (⟨S1x2048x16x1, .f32⟩ : BufTy).Contents (Elt F))
abbrev op2 : HloOp τ sig (Elt F) := StableHlo.reshape main_v1 main_v2 (rfl : (.f32 : EltTy) = .f32) shapeCasts_S1x2048x16x1_S2048x16
abbrev op3 : HloOp τ sig (Elt F) := StableHlo.reshape main_v2 main_v3 (rfl : (.f32 : EltTy) = .f32) shapeCasts_S2048x16_S32768
abbrev op4 : HloOp τ sig (Elt F) := StableHlo.reshape main_arg2 main_v4 (rfl : (.f32 : EltTy) = .f32) shapeCasts_S2048x1_S1x2048x1x1
abbrev op5 : HloOp τ sig (Elt F) := StableHlo.unary main_v4 main_v5 (broadcastInDim S1x2048x16x1 ![0, 1, 2, 3] bcast_S1x2048x1x1_S1x2048x16x1_0_1_2_3 : (⟨S1x2048x1x1, .f32⟩ : BufTy).Contents (Elt F) → (⟨S1x2048x16x1, .f32⟩ : BufTy).Contents (Elt F))
abbrev op6 : HloOp τ sig (Elt F) := StableHlo.reshape main_v5 main_v6 (rfl : (.f32 : EltTy) = .f32) shapeCasts_S1x2048x16x1_S2048x16
abbrev op7 : HloOp τ sig (Elt F) := StableHlo.reshape main_v6 main_v7 (rfl : (.f32 : EltTy) = .f32) shapeCasts_S2048x16_S32768
abbrev op8 : HloOp τ sig (Elt F) := StableHlo.reshape main_arg0 main_v8 (rfl : (.f32 : EltTy) = .f32) shapeCasts_S2048x4096_S8388608
abbrev op9 : HloOp τ sig (Elt F) := StableHlo.reshape main_v9 main_v10 (rfl : (.f32 : EltTy) = .f32) shapeCasts_S8388608_S2048x4096

/-- The contents at launch. -/
def V0 (d : Dev nD) : Valuation τ sig (Elt F) := fun b => m (d, b)
/-- The contents at the call: after the nine operations. -/
def V9 (d : Dev nD) : Valuation τ sig (Elt F) :=
  op8.result (op7.result (op6.result (op5.result (op4.result (op3.result (op2.result (op1.result (op0.result (V0 m d)))))))))

/-- The first nine operations lead from the launch to the call. -/
theorem V9_def (d : Dev nD) :
    op8.result (op7.result (op6.result (op5.result (op4.result (op3.result (op2.result (op1.result (op0.result (V0 m d))))))))) = V9 m d := rfl

/-- The program's result. -/
abbrev rLoc (d : Dev nD) : Loc nD τ sig := (SparseCore.T d).loc main_v10
/-- A TensorCore array of a device. -/
abbrev dr (b : Ref sig .tc) : DevRef τ sig := Proc.devRef .tc b

/-- The TensorCore's arrays. -/
abbrev All : Finset (DevRef τ sig) :=
  {dr main_arg0, dr main_arg1, dr main_arg2, dr main_arg3, dr main_v0, dr main_v1, dr main_v2, dr main_v3, dr main_v4, dr main_v5, dr main_v6, dr main_v7, dr main_v8, dr main_v9, dr main_v10}

/-- They are all of the TensorCore's arrays that outlive a scope. -/
theorem All_eq : All = (Finset.univ.filter fun b : Ref sig .tc => ¬ b.isScoped).map ⟨dr, fun _ _ h => Proc.devRef_injective _ h⟩ := by decide

/-- At launch they are held at the memory's contents. -/
theorem unscoped_held (d : Dev nD) : (unscopedBufs d (fun b => m ((SparseCore.T d).loc b)) : sProp 𝕄) = held (T d) All (V0 m d) := by
  unfold unscopedBufs held
  rw [All_eq, bigSep_map]; rfl

/-- What the call reads: the input, flat; -/
def X (d : Dev nD) : Buf (Elt F) (xLoc d) := V9 m d (dr main_v8)
/-- the scales, each sixteen times over; -/
def Sc (d : Dev nD) : Buf (Elt F) (sLoc d) := V9 m d (dr main_v3)
/-- the zero points, each sixteen times over. -/
def Zp (d : Dev nD) : Buf (Elt F) (zLoc d) := V9 m d (dr main_v7)
/-- What the output holds before it. -/
def O0 (d : Dev nD) : Buf (Elt F) (oLoc d) := V9 m d (dr main_v9)
/-- What it writes. -/
def Out (d : Dev nD) : Buf (Elt F) (oLoc d) := outVal (X m d) (Sc m d) (Zp m d)
/-- After it. -/
def V10 (d : Dev nD) : Valuation τ sig (Elt F) := Function.update (V9 m d) (dr main_v9) (Out m d)

/-- The first nine operations leave every array but their nine results as it was. -/
theorem V9_arg (d : Dev nD) (b : Ref sig .tc) (h : b ∉ ({main_v0, main_v1, main_v2, main_v3, main_v4, main_v5, main_v6, main_v7, main_v8} : Finset (Ref sig .tc))) :
    V9 m d (dr b) = m (d, dr b) := by
  simp only [Finset.mem_insert, Finset.mem_singleton, not_or] at h
  obtain ⟨h0, h1, h2, h3, h4, h5, h6, h7, h8⟩ := h
  unfold V9
  rw [StableHlo.reshape_result_ne (h := h8), StableHlo.reshape_result_ne (h := h7), StableHlo.reshape_result_ne (h := h6),
    StableHlo.unary_result_ne (h := h5), StableHlo.reshape_result_ne (h := h4), StableHlo.reshape_result_ne (h := h3),
    StableHlo.reshape_result_ne (h := h2), StableHlo.unary_result_ne (h := h1), StableHlo.reshape_result_ne (h := h0)]
  rfl

/-- The arguments. -/
abbrev Args : Finset (DevRef τ sig) := {dr main_arg0, dr main_arg1, dr main_arg2, dr main_arg3}
abbrev argPts (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ (SparseCore.T d).loc main_arg3 ↦{fullShare} m ((SparseCore.T d).loc main_arg3))

/-- At the call the arguments are held at their launch contents. -/
theorem held_args (d : Dev nD) : (held (T d) Args (V9 m d) : sProp 𝕄) = argPts m d := by
  unfold held
  rw [SparseCore.bigSep_insert' (by decide), SparseCore.bigSep_insert' (by decide), SparseCore.bigSep_insert' (by decide), bigSep_singleton,
    V9_arg m d main_arg0 (by decide), V9_arg m d main_arg1 (by decide), V9_arg m d main_arg2 (by decide), V9_arg m d main_arg3 (by decide)]

/-- The call's operands and what follows it. -/
abbrev CallRefs : Finset (DevRef τ sig) := {dr main_v8, dr main_v3, dr main_v7, dr main_v9, dr main_v10}

/-- They are held at the call's inputs and the old output and result. -/
theorem held_call (d : Dev nD) : (held (T d) CallRefs (V9 m d) : sProp 𝕄)
    = iprop((xLoc d ↦{fullShare} X m d) ∗ (sLoc d ↦{fullShare} Sc m d) ∗ (zLoc d ↦{fullShare} Zp m d) ∗ (oLoc d ↦{fullShare} O0 m d)
        ∗ rLoc d ↦{fullShare} V9 m d (dr main_v10)) := by
  unfold held
  rw [SparseCore.bigSep_insert' (by decide), SparseCore.bigSep_insert' (by decide), SparseCore.bigSep_insert' (by decide),
    SparseCore.bigSep_insert' (by decide), bigSep_singleton]
  rfl

/-- At the call the arguments and the call's arrays can be taken apart. -/
theorem held_V9 (d : Dev nD) : (held (T d) All (V9 m d) : sProp 𝕄) ⊢ iprop(argPts m d ∗ (xLoc d ↦{fullShare} X m d) ∗ (sLoc d ↦{fullShare} Sc m d)
      ∗ (zLoc d ↦{fullShare} Zp m d) ∗ (oLoc d ↦{fullShare} O0 m d) ∗ rLoc d ↦{fullShare} V9 m d (dr main_v10)) := by
  rw [← held_args, ← held_call]
  unfold held
  rw [← SparseCore.bigSep_union' (by decide)]
  exact bigSep_subset (by decide)

/-- What the last reshape reads and writes. -/
abbrev OutRefs : Finset (DevRef τ sig) := {dr main_v9, dr main_v10}

/-- After the call they are held at the call's result and the old result. -/
theorem held_out (d : Dev nD) : (held (T d) OutRefs (V10 m d) : sProp 𝕄)
    = iprop((oLoc d ↦{fullShare} Out m d) ∗ rLoc d ↦{fullShare} V9 m d (dr main_v10)) := by
  unfold held
  rw [SparseCore.bigSep_insert' (by decide), bigSep_singleton,
    show V10 m d (dr main_v9) = Out m d from Function.update_self _ _ _,
    show V10 m d (dr main_v10) = V9 m d (dr main_v10) from Function.update_of_ne (by decide) _ _]

/-- The result of the program: the flat result in its rows. -/
def Res (d : Dev nD) : Buf (Elt F) (rLoc d) := shapeCast S2048x4096 (Out m d) shapeCasts_S8388608_S2048x4096

/-- After the reshape the program's result is `Res`. -/
theorem held_res (d : Dev nD) : (held (T d) OutRefs (op9.result (V10 m d)) : sProp 𝕄) ⊢ rLoc d ↦{fullShare} Res m d := by
  have h : op9.result (V10 m d) (dr main_v10) = Res m d := by
    refine (StableHlo.reshape_result _ _ _ _ _ _ _).trans ?_
    show shapeCast S2048x4096 (V10 m d (dr main_v9)) _ = _
    rw [show V10 m d (dr main_v9) = Out m d from Function.update_self _ _ _]
    rfl
  unfold held
  rw [SparseCore.bigSep_insert' (by decide), bigSep_singleton, h]
  iintro ⟨-, H⟩
  iexact H

/-! ## The arrays over the 32 tiles -/

/-- What worker `w` is handed, and what it hands back. -/
abbrev goAt (d : Dev nD) (w : ℕ) : sProp 𝕄 := goPts d (Transfers.shareTokN fullShare w) (262144 * w) (X m d) (Sc m d) (Zp m d) (O0 m d)
abbrev tdAt (d : Dev nD) (w : ℕ) : sProp 𝕄 := tdPts d (262144 * w) (X m d) (Sc m d) (Zp m d)

/-- Tile `i` of SparseCore `c` is worker `2 i + c`. -/
theorem workers : (Finset.univ : Finset (Fin 2 × Fin 16)).map ⟨fun p => 2 * p.2.val + p.1.val, by
    intro p q h
    simp only at h
    exact Prod.ext (Fin.ext (by omega)) (Fin.ext (by omega))⟩ = Finset.range 32 := by decide

/-- What is held of 32 workers is held tile by tile. -/
theorem over_workers (Φ : ℕ → sProp 𝕄) :
    bigSep (Finset.range 32) Φ = bigSep Finset.univ fun c : Fin 2 => bigSep Finset.univ fun i : Fin 16 => Φ (2 * i.val + c.val) := by
  rw [← workers, bigSep_map, bigSep_univ_prod]; rfl

/-- The workers' regions do not meet, -/
theorem regions_disjoint : ∀ a ∈ Finset.range 32, ∀ b ∈ Finset.range 32, a ≠ b → Disjoint (region (262144 * a)) (region (262144 * b)) := by
  intro a _ b _ h
  refine Finset.disjoint_left.mpr fun j ha hb => h ?_
  rw [mem_region] at ha hb
  omega

/-- and together they are the whole output. -/
theorem regions_cover : (Finset.range 32).biUnion (fun w => region (262144 * w)) = (Finset.univ : Finset S8388608.Idx) := by
  ext j
  simp only [Finset.mem_biUnion, Finset.mem_range, Finset.mem_univ, iff_true, mem_region]
  have h : (j 0).val < 32 * 262144 := (j 0).isLt
  generalize (j 0).val = n at h ⊢
  exact ⟨n / 262144, by omega, by omega, by omega⟩

/-- So the output is held region by region. -/
theorem out_regions (d : Dev nD) (f : Buf (Elt F) (oLoc d)) :
    (oLoc d ↦{fullShare} f : sProp 𝕄) = bigSep (Finset.range 32) fun w => oLoc d ↦[region (262144 * w)]{fullShare} f := by
  rw [← pointsTo_biUnion (Finset.range 32) (ℓ := oLoc d) (fun w => region (262144 * w)) regions_disjoint, regions_cover]

/-- The call's arrays go out to the workers: a share of each input and a region of the output. -/
theorem to_tiles (d : Dev nD) :
    iprop((xLoc d ↦{fullShare} X m d) ∗ (sLoc d ↦{fullShare} Sc m d) ∗ (zLoc d ↦{fullShare} Zp m d) ∗ (oLoc d ↦{fullShare} O0 m d))
      ⊢ (bigSep Finset.univ fun c : Fin 2 => bigSep Finset.univ fun i : Fin 16 => goAt m d (2 * i.val + c.val) : sProp 𝕄) := by
  rw [← over_workers (goAt m d)]
  unfold goAt goPts
  rw [bigSep_sep', bigSep_sep', bigSep_sep', ← out_regions]
  iintro ⟨Hx, Hs, Hz, Ho⟩
  ihave Hx' := (Transfers.pointsTo_toks_range fullShare 32).1 $$ Hx
  ihave Hs' := (Transfers.pointsTo_toks_range fullShare 32).1 $$ Hs
  ihave Hz' := (Transfers.pointsTo_toks_range fullShare 32).1 $$ Hz
  icases Hx' with ⟨-, Hx⟩
  icases Hs' with ⟨-, Hs⟩
  icases Hz' with ⟨-, Hz⟩
  isplitl [Hx]; · iexact Hx
  isplitl [Hs]; · iexact Hs
  isplitl [Hz]; · iexact Hz
  iexact Ho

/-- Their regions come back as the whole result. -/
theorem from_tiles (d : Dev nD) :
    (bigSep Finset.univ fun c : Fin 2 => bigSep Finset.univ fun i : Fin 16 => tdAt m d (2 * i.val + c.val) : sProp 𝕄) = oLoc d ↦{fullShare} Out m d := by
  rw [← over_workers (tdAt m d), out_regions]; rfl

/-! ## The call -/

/-- What each SparseCore and each tile is handed and hands back. -/
def P : (K (F := F)).Pay (nD := nD) (Val := Elt F) (Name := ℕ) (U := UU) where
  st := fun q d c => match q with | 0 => bigSep Finset.univ fun i : Fin 16 => goAt m d (2 * i.val + c.val)
  dn := fun q d c => match q with | 0 => bigSep Finset.univ fun i : Fin 16 => tdAt m d (2 * i.val + c.val)
  go := fun q d c i => match q with | 0 => goAt m d (2 * i.val + c.val)
  td := fun q d c i => match q with | 0 => tdAt m d (2 * i.val + c.val)
  x := fun _ _ => iprop(emp)

/-- All of it is memory, which may be stored. -/
instance P_storable : (P (F := F) m).IsStorable where
  st q d c := match q with
    | 0 => (inferInstance : BI.Storable (upEmb : UEmb _ 𝕄) (bigSep Finset.univ fun i : Fin 16 => goAt m d (2 * i.val + c.val)))
  dn q d c := match q with
    | 0 => (inferInstance : BI.Storable (upEmb : UEmb _ 𝕄) (bigSep Finset.univ fun i : Fin 16 => tdAt m d (2 * i.val + c.val)))
  go q d c i := match q with
    | 0 => (inferInstance : BI.Storable (upEmb : UEmb _ 𝕄) (goAt m d (2 * i.val + c.val)))
  td q d c i := match q with
    | 0 => (inferInstance : BI.Storable (upEmb : UEmb _ 𝕄) (tdAt m d (2 * i.val + c.val)))

/-- A SparseCore hands its sixteen tiles what it was handed, and back what they hand back. -/
theorem vecSplit : (K (F := F)).VecSplit' (P m) 0 := by
  intro d c
  show (bigSep Finset.univ fun i : Fin 16 => goAt m d (2 * i.val + c.val) : sProp 𝕄) ⊢ |={Set.univ}=> iprop(
      (bigSep Finset.univ fun i : Fin 16 => goAt m d (2 * i.val + c.val))
      ∗ ((bigSep Finset.univ fun i : Fin 16 => tdAt m d (2 * i.val + c.val)) -∗ bigSep Finset.univ fun i : Fin 16 => tdAt m d (2 * i.val + c.val)))
  iintro H; imodintro
  isplitl [H]; · iexact H
  iintro H
  iexact H

/-- A tile's coordinates. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the kernel's body at its coordinates. -/
theorem defs₀_vector (c : Fin τ.nSC) (s : Fin τ.nSub) :
    defs₀ (F := F) (.scVector c s) 0 ()
      = SparseCore.onTile hcore0 hsub0 (fun c s => cc0__quantize_sc (coordsV c s)
          (Memref.whole main_v8_scv) (Memref.isWhole_whole _) (Memref.whole main_v3_scv) (Memref.isWhole_whole _)
          (Memref.whole main_v7_scv) (Memref.isWhole_whole _) (Memref.whole main_v9_scv) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scoped0 cc0_scoped1 cc0_scoped2 cc0_scoped3) ⟨⟩ c s := rfl

/-- A tile that has waited on its own semaphores only has done what the call asks. -/
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile, started by the call, does its part: `tile_body` at its coordinates. The raised depth is for the size of the
    kernel's body, which stands whole in the goal. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  have hb : base (coordsV ⟨_, hci.1⟩ ⟨_, hci.2⟩) = 262144 * (2 * i.val + c.val) := by
    show 524288 * i.val + 262144 * c.val = _
    omega
  have h := tile_body d (coordsV ⟨_, hci.1⟩ ⟨_, hci.2⟩) facts (Transfers.shareTokN fullShare (2 * i.val + c.val)) (X m d) (Sc m d) (Zp m d) (O0 m d) O W hO
  rw [hb] at h
  exact h.trans (wp_mono frame _ _ fun _ => waits_weaken)

/-- The launch's ghost element: the handshakes' tokens; the transfers' counters at their unit. -/
def u₀ : UU := (initOf (K (F := F)).hsCells (K (F := F)).hsToks, 1)

/-- Nothing, as often as wished, is nothing. -/
theorem bigSep_emp' {I : Type} (s : Finset I) : (bigSep s fun _ => iprop(emp)) = (iprop(emp) : sProp 𝕄) := bigSep_emp_const s

/-- The launch's ghost element gives the handshakes their tokens. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [bigSep_congr fun _ _ => bigSep_emp' _, bigSep_emp']
  iempintro

/-! ## @main -/

/-- What the SparseCores are handed is what their tiles are handed; -/
theorem st_eq (d : Dev nD) : (bigSep Finset.univ fun c : Fin ((K (F := F)).nCore 0) => (P m).st 0 d c)
    = (bigSep Finset.univ fun c : Fin 2 => bigSep Finset.univ fun i : Fin 16 => goAt m d (2 * i.val + c.val) : sProp 𝕄) := rfl
/-- what they hand back is the whole result. -/
theorem dn_eq (d : Dev nD) : (bigSep Finset.univ fun c : Fin ((K (F := F)).nCore 0) => (P m).dn 0 d c) = (oLoc d ↦{fullShare} Out m d : sProp 𝕄) :=
  from_tiles m d

/-- What @main leaves: the arguments at their launch contents, and the result. -/
abbrev FIN (d : Dev nD) : sProp 𝕄 := iprop(argPts m d ∗ rLoc d ↦{fullShare} Res m d)

/-- @main: the nine operations, the call and the reshape leave the arguments as they were and the result `Res`. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iterate 9
    iapply (wp_hlo_within 𝒱 (SparseCore.T d) none Set.univ (S := All) (show ({_, _} : Finset (DevRef τ sig)) ⊆ All by decide)) $$ [Hb Hheld]
    · isplitl [Hb] <;> iassumption
    iintro ⟨Hb, Hheld⟩
    rw [wp_ret]; imodintro
  rw [V9_def]
  ihave Hh := (held_V9 m d) $$ Hheld
  icases Hh with ⟨Hargs, Hx, Hs, Hz, Ho, Hr⟩
  iapply ((K (F := F)).wp_run (D (F := F)) 𝒱 (EH := EH) (P := P m) κ d 0) $$ [Hst Hx Hs Hz Ho Hb Hts Hargs Hr]
  isplitr; · iexact Hctx
  isplitl [Hst]; · iexact Hst
  isplitl [Hx Hs Hz Ho]
  · rw [st_eq]
    iapply (to_tiles m d)
    isplitl [Hx]; · iexact Hx
    isplitl [Hs]; · iexact Hs
    isplitl [Hz]; · iexact Hz
    iexact Ho
  iintro ⟨Hst, Hdn⟩
  ihave Ho := (Entails.of_eq (dn_eq m d)) $$ Hdn
  iapply (wp_hlo_within 𝒱 (SparseCore.T d) none Set.univ (op := op9) (S := OutRefs) (show ({_, _} : Finset (DevRef τ sig)) ⊆ OutRefs by decide) (V := V10 m d)) $$ [Hb Ho Hr]
  · isplitl [Hb]; · iexact Hb
    rw [held_out]
    isplitl [Ho]; · iexact Ho
    iexact Hr
  iintro ⟨Hb, Hheld⟩
  ihave Hr := (held_res m d) $$ Hheld
  rw [wp_ret]; imodintro; imodintro
  isplitl [Hst]; · iexact Hst
  isplitr [Hb Hts]
  · isplitl [Hargs]; · iexact Hargs
    iexact Hr
  isplitl [Hb] <;> iassumption

/-- What the claims read of device `d`'s final state. -/
def fq (d : Dev nD) (s' : Phys nD τ sig (Elt F)) : Prop :=
  s'.mem.mem (rLoc d) = Res m d ∧ s'.mem.mem ((SparseCore.T d).loc main_arg0) = m ((SparseCore.T d).loc main_arg0)
    ∧ s'.mem.mem ((SparseCore.T d).loc main_arg1) = m ((SparseCore.T d).loc main_arg1)
    ∧ s'.mem.mem ((SparseCore.T d).loc main_arg2) = m ((SparseCore.T d).loc main_arg2)
    ∧ s'.mem.mem ((SparseCore.T d).loc main_arg3) = m ((SparseCore.T d).loc main_arg3)

/-- An array held whole is the memory's. -/
theorem agree (s' : Phys nD τ sig (Elt F)) (ℓ : Loc nD τ sig) (f : Buf (Elt F) ℓ) :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

/-- So the final memory has them. -/
theorem hfin (d : Dev nD) (s' : Phys nD τ sig (Elt F)) : iprop(FIN m d ∗ SI s') ⊢ (⌜fq m d s'⌝ : sProp 𝕄) := by
  iintro ⟨⟨⟨H0, H1, H2, H3⟩, Hr⟩, HSI⟩
  ihave H := (agree s' _ _) $$ [HSI Hr]
  · isplitl [HSI] <;> iassumption
  icases H with ⟨%hr, HSI⟩
  ihave H := (agree s' _ _) $$ [HSI H0]
  · isplitl [HSI] <;> iassumption
  icases H with ⟨%h0, HSI⟩
  ihave H := (agree s' _ _) $$ [HSI H1]
  · isplitl [HSI] <;> iassumption
  icases H with ⟨%h1, HSI⟩
  ihave H := (agree s' _ _) $$ [HSI H2]
  · isplitl [HSI] <;> iassumption
  icases H with ⟨%h2, HSI⟩
  ihave H := (agree s' _ _) $$ [HSI H3]
  · isplitl [HSI] <;> iassumption
  icases H with ⟨%h3, HSI⟩
  ipureintro; exact ⟨hr, h0, h1, h2, h3⟩

/-- What `run_main` states of the final state. -/
def QC : PUnit × MemSt nD τ sig (Elt F) → Prop := fun r =>
  (∀ d : Dev nD, r.2.mem (rLoc d) = Res m d ∧ r.2.mem ((SparseCore.T d).loc main_arg0) = m ((SparseCore.T d).loc main_arg0)
    ∧ r.2.mem ((SparseCore.T d).loc main_arg1) = m ((SparseCore.T d).loc main_arg1)
    ∧ r.2.mem ((SparseCore.T d).loc main_arg2) = m ((SparseCore.T d).loc main_arg2)
    ∧ r.2.mem ((SparseCore.T d).loc main_arg3) = m ((SparseCore.T d).loc main_arg3)) ∧ r.2.sem = fun _ => 0

/-- The program run from any memory: it ends with the result `Res`, its arguments unchanged and every semaphore at zero. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Run
-- ==== Proof.RefRun.lean ====
/-
  The reference as a function of its arguments (`refVal`), in the steps in which it is written, and its run (`run`).
-/
module

public import proofs.«01_k».proof.Defs
public import Idealize.ShloMosaic.Lib.Claim
public import Idealize.ShloMosaic.Lib.StableHlo.RunHlo
public import proofs.«01_k».proof.Proof.Gen.ReferenceIdeal

@[expose] public section

noncomputable section

namespace Cert.ReferenceIdeal.Run

open Cert.ReferenceIdeal Cert.ReferenceIdeal.Gen
open Idealize.ShloMosaic Idealize.SL.Sem

variable {F : FTy → Type} [FloatOps F]

/-- The quotient plus the zero point, of each element. -/
def scaledArr (x : S2048x4096.Idx → F .f32) (s z : S2048x1.Idx → F .f32) : S2048x4096.Idx → F .f32 :=
  addf (Host.divf x (broadcastInDim S2048x4096 ![0, 1] bcast_S2048x1_S2048x4096_0_1 s))
    (broadcastInDim S2048x4096 ![0, 1] bcast_S2048x1_S2048x4096_0_1 z)

/-- Its distance from each code. -/
def distArr (q : S2048x4096.Idx → F .f32) (code : S16.Idx → F .f32) : S8388608x16.Idx → F .f32 :=
  Host.absf (subf
    (broadcastInDim S8388608x16 ![0, 1] bcast_S8388608x1_S8388608x16_0_1 (shapeCast S8388608x1 q shapeCasts_S2048x4096_S8388608x1))
    (broadcastInDim S8388608x16 ![0, 1] bcast_S1x16_S8388608x16_0_1 (shapeCast S1x16 code shapeCasts_S16_S1x16)))

/-- The place of the nearest code. -/
def indexArr (dist : S8388608x16.Idx → F .f32) : S8388608.Idx → BitVec 32 := fun j =>
  (Host.argReduce reducer_argmin_f32_i32 dist (iotaInDim S8388608x16 32 1) (constant S_ .f32 0x7F800000#32) (constantI S_ 32 0#32)
    reducesTo_S8388608x16_S8388608_d1 h_S_ j).2

/-- The place as a one-column array, a negative one counted from the end. -/
def placeArr (idx : S8388608.Idx → BitVec 32) : S8388608x1.Idx → BitVec 32 :=
  broadcastInDim S8388608x1 ![0] bcast_S8388608_S8388608x1_0
    (select (cmpi .slt idx (broadcastInDim S8388608 ![] bcast_S_S8388608 (constantI S_ 32 0#32)))
      (addi idx (broadcastInDim S8388608 ![] bcast_S_S8388608 (constantI S_ 32 16#32))) idx)

/-- Whether the place is one of the codebook's. -/
def withinArr (p : S8388608x1.Idx → BitVec 32) : S8388608.Idx → BitVec 1 :=
  Host.reduce IntOp.andi
    (andi (cmpi .sge p (broadcastInDim S8388608x1 ![] bcast_S_S8388608x1 (constantI S_ 32 0#32)))
      (cmpi .sle p (broadcastInDim S8388608x1 ![0, 1] bcast_S1x1_S8388608x1_0_1 (broadcastInDim S1x1 ![1] bcast_S1_S1x1_1 (constantI S1 32 15#32)))))
    (constantI S_ 1 1#1) reducesTo_S8388608x1_S8388608_d1 h_S_

/-- The code there. -/
def takeArr (code : S16.Idx → F .f32) (p : S8388608x1.Idx → BitVec 32) : S8388608.Idx → F .f32 :=
  select (withinArr p) (Host.gather gather_S16_S8388608x1_S8388608_n_0_n_n_0_1_1 code p)
    (broadcastInDim S8388608 ![] bcast_S_S8388608 (constant S_ .f32 0x7FC00000#32))

/-- Scaled back. -/
def backArr (t : S8388608.Idx → F .f32) (s z : S2048x1.Idx → F .f32) : S2048x4096.Idx → F .f32 :=
  mulf (subf (shapeCast S2048x4096 t shapeCasts_S8388608_S2048x4096) (broadcastInDim S2048x4096 ![0, 1] bcast_S2048x1_S2048x4096_0_1 z))
    (broadcastInDim S2048x4096 ![0, 1] bcast_S2048x1_S2048x4096_0_1 s)

/-- The reference's result, of its four arguments. -/
def refVal (x : S2048x4096.Idx → F .f32) (s z : S2048x1.Idx → F .f32) (code : S16.Idx → F .f32) : S2048x4096.Idx → F .f32 :=
  backArr (takeArr code (placeArr (indexArr (distArr (scaledArr x s z) code)))) s z

/-- A TensorCore array of a device. -/
abbrev at_ (c : Dev nD) (b : Ref sig .tc) : Loc nD τ sig := (c.tc : Thread nD τ).loc b

/-- The reference run from any memory: it ends with the result `refVal` of its arguments, which are unchanged. -/
theorem run (m : (ℓ : Loc nD τ sig) → Buf (Elt F) ℓ) (g : Dev nD → PrngReg) :
    θ_run (defs (F := F)) (onTc (τ := τ) (main (F := F))) ⟨m, fun _ => 0, g⟩ (fun r =>
      ∀ c : Dev nD, r.2.mem (at_ c main_v16) = refVal (m (at_ c main_arg0)) (m (at_ c main_arg1)) (m (at_ c main_arg2)) (m (at_ c main_arg3))
        ∧ r.2.mem (at_ c main_arg0) = m (at_ c main_arg0) ∧ r.2.mem (at_ c main_arg1) = m (at_ c main_arg1)
        ∧ r.2.mem (at_ c main_arg2) = m (at_ c main_arg2) ∧ r.2.mem (at_ c main_arg3) = m (at_ c main_arg3)) := by
  hlo_run
  simp only [StableHlo.TRef.ofBuf_toBuf]
  simp -implicitDefEqProofs only [StableHlo.TRef.toBuf, StableHlo.TRef.ofBuf, cast_eq]
  rfl

end Cert.ReferenceIdeal.Run
-- ==== Proof.RefValue.lean ====
/-
  What the reference computes at one element, over the extended reals: its index array holds the first place of a least
  distance (`indexArr_first`), and its lookup reads the codebook at such a place (`takeArr_at`).
-/
module

public import proofs.«01_k».proof.Proof.RefRun
public import Idealize.ShloMosaic.PureOps.Ideal.Laws
public import Idealize.ShloMosaic.Lib.StableHlo.Predicate
public import Idealize.ShloMosaic.Lib.ReduceAll
public import Idealize.ShloMosaic.Lib.ValueIdxCore
public import Idealize.ShloMosaic.Lib.Pipeline.Value

@[expose] public section

noncomputable section

namespace Cert.ReferenceIdeal.Value

open Cert.ReferenceIdeal Cert.ReferenceIdeal.Gen Cert.ReferenceIdeal.Run
open Idealize.ShloMosaic Idealize.ShloMosaic.StableHlo.Predicate

/-! ## The least pair of a list -/

/-- The order by which the reduction chooses: by value, and by place among equal values. -/
def Before (p q : EReal × BitVec 32) : Prop := p.1 < q.1 ∨ p.1 = q.1 ∧ p.2.toInt ≤ q.2.toInt

/-- Every pair comes before itself. -/
theorem before_refl (p : EReal × BitVec 32) : Before p p := Or.inr ⟨rfl, le_rfl⟩

/-- The order is transitive. -/
theorem before_trans {p q r : EReal × BitVec 32} (h : Before p q) (h' : Before q r) : Before p r := by
  rcases h with h | ⟨h, hp⟩ <;> rcases h' with h' | ⟨h', hp'⟩
  · exact Or.inl (h.trans h')
  · exact Or.inl (h'.symm ▸ h)
  · exact Or.inl (h ▸ h')
  · exact Or.inr ⟨h.trans h', hp.trans hp'⟩

/-- One step of the reduction keeps the left pair where its value is less, or equal and its place less, else the right. -/
theorem reducer_eq (a b : EReal × BitVec 32) :
    reducer_argmin_f32_i32 (F := Ideal) a b = if a.1 < b.1 ∨ a.1 = b.1 ∧ a.2.toInt < b.2.toInt then a else b := by
  obtain ⟨a, i⟩ := a
  obtain ⟨b, k⟩ := b
  unfold reducer_argmin_f32_i32
  have hne : (FloatOps.cmpf (F := Ideal) (φ := .f32) .une a a) = 0#1 := by
    show BitVec.ofBool (decide (a ≠ a)) = 0#1
    simp
  have hlt : (FloatOps.cmpf (F := Ideal) (φ := .f32) .olt a b) = BitVec.ofBool (decide (a < b)) := rfl
  have heq : (FloatOps.cmpf (F := Ideal) (φ := .f32) .oeq a b) = BitVec.ofBool (decide (a = b)) := rfl
  have hsl : IntOp.cmpi .slt i k = BitVec.ofBool (decide (i.toInt < k.toInt)) := rfl
  simp only [hne, hlt, heq, hsl]
  have htt : ∀ c : BitVec 1, IntOp.ori 1#1 c = 1#1 := by decide
  have hff : ∀ c : BitVec 1, IntOp.ori 0#1 c = c := by decide
  have hand : ∀ c : BitVec 1, IntOp.andi 1#1 c = c ∧ IntOp.andi 0#1 c = 0#1 := by decide
  by_cases h1 : a < b
  · simp [h1, htt, hff, Scalar.select]
  · by_cases h2 : a = b
    · subst h2
      by_cases h3 : i.toInt < k.toInt <;> simp [h3, htt, hff, hand, Scalar.select]
    · simp [h1, h2, hff, hand, Scalar.select]

/-- So one step gives a pair that comes before both. -/
theorem reducer_before (a b : EReal × BitVec 32) :
    Before (reducer_argmin_f32_i32 (F := Ideal) a b) a ∧ Before (reducer_argmin_f32_i32 (F := Ideal) a b) b := by
  rw [reducer_eq]
  split
  · next h => exact ⟨before_refl a, h.imp_right fun h => ⟨h.1, h.2.le⟩⟩
  · next h =>
    rw [not_or, not_and, not_lt, not_lt] at h
    refine ⟨?_, before_refl b⟩
    rcases h.1.lt_or_eq with h' | h'
    · exact Or.inl h'
    · exact Or.inr ⟨h', h.2 h'.symm⟩

/-- The reduction of a list is one of its pairs, or the initial one, and comes before all of them. -/
theorem foldl_first (l : List (EReal × BitVec 32)) (a : EReal × BitVec 32) :
    l.foldl (reducer_argmin_f32_i32 (F := Ideal)) a ∈ a :: l ∧ ∀ p ∈ a :: l, Before (l.foldl (reducer_argmin_f32_i32 (F := Ideal)) a) p := by
  induction l generalizing a with
  | nil => exact ⟨List.mem_singleton_self a, fun p hp => by rw [List.mem_singleton.1 hp]; exact before_refl a⟩
  | cons b l ih =>
    obtain ⟨hm, hb⟩ := ih (reducer_argmin_f32_i32 (F := Ideal) a b)
    have h0 := hb _ (List.mem_cons_self ..)
    have hab := reducer_before a b
    rw [List.foldl_cons]
    refine ⟨?_, fun p hp => ?_⟩
    · rcases List.mem_cons.1 hm with hm | hm
      · rw [hm, reducer_eq]
        split
        · exact List.mem_cons_self ..
        · exact List.mem_cons_of_mem _ (List.mem_cons_self ..)
      · exact List.mem_cons_of_mem _ (List.mem_cons_of_mem _ hm)
    · rcases List.mem_cons.1 hp with rfl | hp
      · exact before_trans h0 hab.1
      · rcases List.mem_cons.1 hp with rfl | hp
        · exact before_trans h0 hab.2
        · exact hb p (List.mem_cons_of_mem _ hp)

/-! ## The place of the nearest code -/

section Place
variable {n : ℕ}

/-- In an array of `n` rows, the pairs reduced into a row are the row's values with their places. -/
theorem mem_fiber (h : (⟨2, ![n, 16]⟩ : Shape).ReducesTo [1] ⟨1, ![n]⟩) (d : (⟨2, ![n, 16]⟩ : Shape).Idx → EReal) (r : Fin n) (p : EReal × BitVec 32) :
    p ∈ Host.argReduceFiber d (iotaInDim ⟨2, ![n, 16]⟩ 32 1) h (Shape.Idx.ofFin r) ↔ ∃ k : Fin 16, p = (d (ij r k), BitVec.ofNat 32 k.val) := by
  have hdrop : ∀ i : (⟨2, ![n, 16]⟩ : Shape).Idx, h.drop i = Shape.Idx.ofFin r ↔ i 0 = r := by
    intro i
    have hv : (h.drop i 0 : Nat) = i 0 := Shape.ReducesTo.drop_apply_val h i 0
    constructor
    · intro e; rw [e] at hv; exact Fin.ext hv.symm
    · intro e; funext b; have hb : b = 0 := Subsingleton.elim _ _; subst hb; exact Fin.ext (by rw [hv, e]; rfl)
  unfold Host.argReduceFiber
  simp only [List.mem_map, List.mem_filter, List.mem_finRange, true_and, decide_eq_true_eq]
  constructor
  · rintro ⟨a, ha, rfl⟩
    generalize (⟨2, ![n, 16]⟩ : Shape).rowMajor.symm a = i at ha ⊢
    refine ⟨i 1, ?_⟩
    have hi : d (ij r (i 1)) = d i := by rw [← (hdrop i).1 ha]; exact congrArg d (ij_eta i)
    exact Prod.ext hi.symm rfl
  · rintro ⟨k, rfl⟩
    exact ⟨(⟨2, ![n, 16]⟩ : Shape).rowMajor (ij r k), by rw [Equiv.symm_apply_apply]; exact (hdrop _).2 rfl, by rw [Equiv.symm_apply_apply]; rfl⟩

/-- The reduction of an array of `n` rows from infinity and place 0: in every row the first place of a least value, at
    infinite values too. -/
theorem argmin_first (w : (⟨1, ![n]⟩ : Shape).Idx → BitVec 32) (h : (⟨2, ![n, 16]⟩ : Shape).ReducesTo [1] ⟨1, ![n]⟩) {u : Shape} (hu : 0 < u.numel) (ix : u.Idx → EReal) (iy : u.Idx → BitVec 32)
    (hx : ix (Shape.Idx.first hu) = ⊤) (hy : iy (Shape.Idx.first hu) = 0#32) (d : (⟨2, ![n, 16]⟩ : Shape).Idx → EReal)
    (hw : w = fun j => (Host.argReduce (φ := .f32) (reducer_argmin_f32_i32 (F := Ideal)) d (iotaInDim ⟨2, ![n, 16]⟩ 32 1) ix iy h hu j).2) (r : Fin n) :
    ∃ k : Fin 16, w (Shape.Idx.ofFin r) = BitVec.ofNat 32 k.val
      ∧ ∀ k' : Fin 16, d (ij r k) < d (ij r k') ∨ d (ij r k) = d (ij r k') ∧ k ≤ k' := by
  subst hw
  dsimp only
  rw [Ideal.argReduce_eq_reduce2, Host.reduce2_eq_foldl_fiber, hx, hy]
  obtain ⟨hm, hb⟩ := foldl_first (Host.argReduceFiber d (iotaInDim ⟨2, ![n, 16]⟩ 32 1) h (Shape.Idx.ofFin r)) (⊤, 0#32)
  generalize List.foldl (reducer_argmin_f32_i32 (F := Ideal)) (⊤, 0#32) _ = w at hm hb ⊢
  have hk : ∀ k : Fin 16, Before w (d (ij r k), BitVec.ofNat 32 k.val) := fun k =>
    hb _ (List.mem_cons_of_mem _ ((mem_fiber h d r _).2 ⟨k, rfl⟩))
  obtain ⟨k, rfl⟩ : ∃ k : Fin 16, w = (d (ij r k), BitVec.ofNat 32 k.val) := by
    rcases List.mem_cons.1 hm with rfl | hm
    · refine ⟨0, ?_⟩
      rcases hk 0 with h | h
      · exact absurd h not_top_lt
      · exact Prod.ext h.1 rfl
    · exact (mem_fiber h d r _).1 hm
  refine ⟨k, rfl, fun k' => (hk k').imp_right fun h => ⟨h.1, ?_⟩⟩
  have h2 := h.2
  simp only [toInt_ofNat_small k.val (by omega), toInt_ofNat_small k'.val (by omega)] at h2
  exact_mod_cast h2

end Place

/-- The initial value is infinity. -/
theorem infinity_eq : (constant S_ .f32 0x7F800000#32 : S_.Idx → Ideal .f32) (Shape.Idx.first h_S_) = (⊤ : EReal) := by
  show (FloatOps.ofBits .f32 0x7F800000#32 : Ideal .f32) = (⊤ : EReal)
  simp [FloatOps.ofBits, Ideal.ofBits, Ideal.ieee]

/-- In every row the reference's index is the first place of a least distance. -/
theorem indexArr_first (d : S8388608x16.Idx → EReal) (r : Fin 8388608) :
    ∃ k : Fin 16, indexArr (F := Ideal) d (Shape.Idx.ofFin r) = BitVec.ofNat 32 k.val
      ∧ ∀ k' : Fin 16, d (ij r k) < d (ij r k') ∨ d (ij r k) = d (ij r k') ∧ k ≤ k' :=
  argmin_first _ reducesTo_S8388608x16_S8388608_d1 h_S_ (constant (F := Ideal) S_ .f32 0x7F800000#32) (constantI S_ 32 0#32) infinity_eq rfl d (by unfold indexArr; rfl) r

/-! ## The lookup -/

/-- A place from 0 to 15 is not negative, -/
theorem not_negative : ∀ k : Fin 16, IntOp.cmpi .slt (BitVec.ofNat 32 k.val) 0#32 = 0#1 := by decide
/-- and it is one of the codebook's. -/
theorem in_table : ∀ k : Fin 16, IntOp.andi (IntOp.cmpi .sge (BitVec.ofNat 32 k.val) 0#32) (IntOp.cmpi .sle (BitVec.ofNat 32 k.val) 15#32) = 1#1 := by decide

variable {F : FTy → Type} [FloatOps F]

/-- A place from 0 to 15 is kept as it is. -/
theorem placeArr_at (idx : S8388608.Idx → BitVec 32) (r : Fin 8388608) (k : Fin 16)
    (h : idx (Shape.Idx.ofFin r) = BitVec.ofNat 32 k.val) : placeArr idx (ixP r) = BitVec.ofNat 32 k.val := by
  unfold placeArr
  refine (bcast_col1 _ _ r).trans ?_
  rw [ValueIdx.select_apply]
  show Scalar.select (IntOp.cmpi .slt (idx _) 0#32) _ (idx _) = _
  rw [h, not_negative]
  rfl

/-- Where every place is from 0 to 15, the lookup reads the codebook at the place. -/
theorem takeArr_at (c : S16.Idx → F .f32) (idx : S8388608.Idx → BitVec 32) (h : ∀ r, ∃ k : Fin 16, idx (Shape.Idx.ofFin r) = BitVec.ofNat 32 k.val)
    (r : Fin 8388608) (k : Fin 16) (hk : idx (Shape.Idx.ofFin r) = BitVec.ofNat 32 k.val) :
    takeArr c (placeArr idx) (Shape.Idx.ofFin r) = c (Shape.Idx.ofFin k) := by
  have hw : withinArr (placeArr idx) (Shape.Idx.ofFin r) = 1#1 := by
    refine Host.reduce_andi_one _ _ _ _ _ rfl fun i => ?_
    obtain ⟨k, hk⟩ := h (i 0)
    have hi : i = ixP (n := 8388608) (i 0) := by
      funext a; match a with | ⟨0, _⟩ => rfl | ⟨1, _⟩ => exact Subsingleton.elim (α := Fin 1) _ _
    show IntOp.andi (IntOp.cmpi .sge (placeArr idx i) 0#32) (IntOp.cmpi .sle (placeArr idx i) 15#32) = 1#1
    rw [hi, placeArr_at idx (i 0) k hk, in_table]
  unfold takeArr
  rw [ValueIdx.select_apply, hw, ValueIdx.select_one]
  refine (gather_take gather_S16_S8388608x1_S8388608_n_0_n_n_0_1_1 rfl rfl rfl rfl c (placeArr idx) r (by norm_num)).trans (congrArg (fun k => c (Shape.Idx.ofFin k)) (Fin.ext ?_))
  show min (placeArr idx (ixP r)).toInt.toNat 15 = k.val
  rw [placeArr_at idx r k hk, toInt_ofNat_small k.val (by omega)]
  omega

end Cert.ReferenceIdeal.Value
-- ==== Proof.RefElement.lean ====
/-
  The reference's result at one element, over the extended reals: the code at a first place of a least distance, less the zero
  point, times the scale (`refVal_at`).
-/
module

public import proofs.«01_k».proof.Proof.RefValue

@[expose] public section

noncomputable section

namespace Cert.ReferenceIdeal.Value

open Cert.ReferenceIdeal Cert.ReferenceIdeal.Gen Cert.ReferenceIdeal.Run
open Idealize.ShloMosaic Idealize.ShloMosaic.StableHlo.Predicate

/-! ## The result at an element -/

/-- The place of row `r`, column `k` of the argument in the flat array. -/
def flat (r : Fin 2048) (k : Fin 4096) : Fin 8388608 := ⟨4096 * r.val + k.val, by omega⟩

/-- The quotient plus the zero point at an element; the row's scale and zero point serve its 4096 columns. -/
theorem scaledArr_at (x : S2048x4096.Idx → EReal) (s z : S2048x1.Idx → EReal) (r : Fin 2048) (k : Fin 4096) :
    scaledArr (F := Ideal) x s z (ij r k) = Ideal.div (x (ij r k)) (s (ixP r)) + z (ixP r) := by
  unfold scaledArr
  show Ideal.div (x (ij r k)) (broadcastInDim S2048x4096 ![0, 1] bcast_S2048x1_S2048x4096_0_1 s (ij r k))
    + broadcastInDim S2048x4096 ![0, 1] bcast_S2048x1_S2048x4096_0_1 z (ij r k) = _
  rw [bcast_of_col _ s r k, bcast_of_col _ z r k]

/-- The distance of an element from the code at place `c`. -/
theorem distArr_at (q : S2048x4096.Idx → EReal) (code : S16.Idx → EReal) (r : Fin 2048) (k : Fin 4096) (c : Fin 16) :
    distArr (F := Ideal) q code (ij (flat r k) c)
      = max (q (ij r k) - code (Shape.Idx.ofFin c)) (-(q (ij r k) - code (Shape.Idx.ofFin c))) := by
  have hq : broadcastInDim S8388608x16 ![0, 1] bcast_S8388608x1_S8388608x16_0_1 (shapeCast S8388608x1 q shapeCasts_S2048x4096_S8388608x1)
      (ij (flat r k) c) = q (ij r k) := by
    rw [bcast_of_col _ _ (flat r k) c]
    refine shapeCast_apply q _ _ (ij r k) ?_
    rw [Shape.rowMajor_val_two, Shape.rowMajor_val_two]
    show r.val * 4096 + k.val = (4096 * r.val + k.val) * 1 + 0
    omega
  have hc : broadcastInDim S8388608x16 ![0, 1] bcast_S1x16_S8388608x16_0_1 (shapeCast S1x16 code shapeCasts_S16_S1x16)
      (ij (flat r k) c) = code (Shape.Idx.ofFin c) := by
    rw [bcast_of_row _ _ (flat r k) c]
    refine shapeCast_apply code _ _ (Shape.Idx.ofFin c) ?_
    rw [Shape.rowMajor_val_one, Shape.rowMajor_val_two]
    show c.val = 0 * 16 + c.val
    omega
  rw [← hq, ← hc]
  rfl

/-- A flat array scaled back, at an element. -/
theorem backArr_at (t : S8388608.Idx → EReal) (s z : S2048x1.Idx → EReal) (r : Fin 2048) (k : Fin 4096) :
    backArr (F := Ideal) t s z (ij r k) = (t (Shape.Idx.ofFin (flat r k)) - z (ixP r)) * s (ixP r) := by
  have ht : shapeCast S2048x4096 t shapeCasts_S8388608_S2048x4096 (ij r k) = t (Shape.Idx.ofFin (flat r k)) := by
    refine shapeCast_apply t _ _ _ ?_
    rw [Shape.rowMajor_val_one, Shape.rowMajor_val_two]
    show 4096 * r.val + k.val = r.val * 4096 + k.val
    omega
  rw [← ht, ← bcast_of_col bcast_S2048x1_S2048x4096_0_1 s r k, ← bcast_of_col bcast_S2048x1_S2048x4096_0_1 z r k]
  rfl

/-- The lookup at every index of an array of distances: a code at a first place of a least distance. -/
theorem takeArr_first (d : S8388608x16.Idx → EReal) (code : S16.Idx → EReal) (r : Fin 8388608) :
    ∃ i : Fin 16, takeArr (F := Ideal) code (placeArr (indexArr (F := Ideal) d)) (Shape.Idx.ofFin r) = code (Shape.Idx.ofFin i)
      ∧ ∀ i' : Fin 16, d (ij r i) < d (ij r i') ∨ d (ij r i) = d (ij r i') ∧ i ≤ i' := by
  have h := indexArr_first d
  generalize indexArr (F := Ideal) d = w at h ⊢
  obtain ⟨i, hi, hmin⟩ := h r
  exact ⟨i, takeArr_at (F := Ideal) code w (fun r => (h r).imp fun _ h => h.1) r i hi, hmin⟩

/-- The reference's steps, one after the other. -/
theorem refVal_eq (x : S2048x4096.Idx → EReal) (s z : S2048x1.Idx → EReal) (code : S16.Idx → EReal) :
    refVal (F := Ideal) x s z code
      = backArr (F := Ideal) (takeArr (F := Ideal) code (placeArr (indexArr (F := Ideal) (distArr (F := Ideal) (scaledArr (F := Ideal) x s z) code)))) s z := by
  unfold refVal
  rfl

/-- At an element the reference's result is the code at a first place of a least distance, less the row's zero point, times
    the row's scale. -/
theorem refVal_at (x : S2048x4096.Idx → EReal) (s z : S2048x1.Idx → EReal) (code : S16.Idx → EReal) (r : Fin 2048) (k : Fin 4096) :
    ∃ i : Fin 16, refVal (F := Ideal) x s z code (ij r k) = (code (Shape.Idx.ofFin i) - z (ixP r)) * s (ixP r)
      ∧ ∀ i' : Fin 16, distArr (F := Ideal) (scaledArr (F := Ideal) x s z) code (ij (flat r k) i)
            < distArr (F := Ideal) (scaledArr (F := Ideal) x s z) code (ij (flat r k) i')
          ∨ distArr (F := Ideal) (scaledArr (F := Ideal) x s z) code (ij (flat r k) i)
              = distArr (F := Ideal) (scaledArr (F := Ideal) x s z) code (ij (flat r k) i') ∧ i ≤ i' := by
  obtain ⟨i, hi, hmin⟩ := takeArr_first (distArr (F := Ideal) (scaledArr (F := Ideal) x s z) code) code (flat r k)
  refine ⟨i, ?_, hmin⟩
  rw [refVal_eq, backArr_at, hi]

end Cert.ReferenceIdeal.Value
-- ==== Proof.KernelValue.lean ====
/-
  What the kernel computes at one element: the element quantized by its row's scale and zero point (`Res_at`). The operations
  before the call flatten the input and lay out every row's scale, and its zero point, sixteen times over.
-/
module

public import proofs.«01_k».proof.Proof.RunIdeal
public import Idealize.ShloMosaic.Lib.StableHlo.Predicate
public import Idealize.ShloMosaic.Lib.Pipeline.Value

@[expose] public section

noncomputable section

namespace Cert.KernelIdeal.Value

open Cert.KernelIdeal Cert.KernelIdeal.Gen Cert.KernelIdeal.Quant Cert.KernelIdeal.Tile Cert.KernelIdeal.Run
open Idealize.ShloMosaic Idealize.ShloMosaic.StableHlo.Predicate

variable {F : FTy → Type} [FloatOps F]

/-- One value per row, laid out sixteen times over in a flat array. -/
def spread (a : S2048x1.Idx → F .f32) : S32768.Idx → F .f32 :=
  shapeCast S32768 (shapeCast S2048x16 (broadcastInDim S1x2048x16x1 ![0, 1, 2, 3] bcast_S1x2048x1x1_S1x2048x16x1_0_1_2_3
    (shapeCast S1x2048x1x1 a shapeCasts_S2048x1_S1x2048x1x1)) shapeCasts_S1x2048x16x1_S2048x16) shapeCasts_S2048x16_S32768

/-- Its values sixteen `r` to sixteen `r` plus fifteen are row `r`'s. -/
theorem spread_at (a : S2048x1.Idx → F .f32) (r : Fin 2048) (c : Fin 16) (j : S32768.Idx) (hj : (j 0).val = 16 * r.val + c.val) :
    spread a j = a (ixP r) := by
  unfold spread
  refine (shapeCast_apply _ _ j (ij r c) ?_).trans ((shapeCast_apply _ _ (ij r c) (ValueIdx.ix4 (0 : Fin 1) r c (0 : Fin 1)) ?_).trans
    ((broadcastInDim_apply _ _ _ _ (ValueIdx.ix4 (0 : Fin 1) r (0 : Fin 1) (0 : Fin 1)) ?_).trans (shapeCast_apply _ _ _ (ixP r) ?_)))
  · rw [Shape.rowMajor_val_one, Shape.rowMajor_val_two, hj]
    show r.val * 16 + c.val = _
    omega
  · rw [Shape.rowMajor_val_two, Shape.rowMajor_val_four]
    show ((0 * 2048 + r.val) * 16 + c.val) * 1 + 0 = r.val * 16 + c.val
    omega
  · intro b
    match b with | ⟨0, _⟩ => rfl | ⟨1, _⟩ => rfl | ⟨2, _⟩ => rfl | ⟨3, _⟩ => rfl
  · rw [Shape.rowMajor_val_two, Shape.rowMajor_val_four]
    show r.val * 1 + 0 = ((0 * 2048 + r.val) * 1 + 0) * 1 + 0
    omega

variable (m : (ℓ : Loc nD τ sig) → Buf (Elt F) ℓ) (d : Dev nD)

/-- The call's input is the first argument, flat. -/
theorem X_eq : X m d = shapeCast S8388608 (m (d, dr main_arg0) : S2048x4096.Idx → F .f32) shapeCasts_S2048x4096_S8388608 := by
  unfold X V9
  rw [StableHlo.reshape_result, StableHlo.reshape_result_ne (h := by decide), StableHlo.reshape_result_ne (h := by decide),
    StableHlo.unary_result_ne (h := by decide), StableHlo.reshape_result_ne (h := by decide), StableHlo.reshape_result_ne (h := by decide),
    StableHlo.reshape_result_ne (h := by decide), StableHlo.unary_result_ne (h := by decide), StableHlo.reshape_result_ne (h := by decide)]
  rfl

/-- Its scales are the second argument's, sixteen times over. -/
theorem Sc_eq : Sc m d = spread (m (d, dr main_arg1) : S2048x1.Idx → F .f32) := by
  unfold Sc V9
  rw [StableHlo.reshape_result_ne (h := by decide), StableHlo.reshape_result_ne (h := by decide), StableHlo.reshape_result_ne (h := by decide),
    StableHlo.unary_result_ne (h := by decide), StableHlo.reshape_result_ne (h := by decide), StableHlo.reshape_result,
    StableHlo.reshape_result, StableHlo.unary_result, StableHlo.reshape_result]
  rfl

/-- Its zero points are the third argument's, sixteen times over. -/
theorem Zp_eq : Zp m d = spread (m (d, dr main_arg2) : S2048x1.Idx → F .f32) := by
  unfold Zp V9
  rw [StableHlo.reshape_result_ne (h := by decide), StableHlo.reshape_result, StableHlo.reshape_result, StableHlo.unary_result,
    StableHlo.reshape_result, StableHlo.reshape_result_ne (h := by decide), StableHlo.reshape_result_ne (h := by decide),
    StableHlo.unary_result_ne (h := by decide), StableHlo.reshape_result_ne (h := by decide)]
  rfl

/-- The kernel's result at row `r`, column `k`. -/
theorem Res_at (r : Fin 2048) (k : Fin 4096) :
    (Res m d : S2048x4096.Idx → F .f32) (ij r k) = quant1 ((m (d, dr main_arg0) : S2048x4096.Idx → F .f32) (ij r k))
      ((m (d, dr main_arg1) : S2048x1.Idx → F .f32) (ixP r)) ((m (d, dr main_arg2) : S2048x1.Idx → F .f32) (ixP r)) := by
  have hlt : 4096 * r.val + k.val < 8388608 := by omega
  have hc : k.val % 16 < 16 := Nat.mod_lt _ (by norm_num)
  have hpos : (S8388608.rowMajor (ValueIdx.ix1 ⟨4096 * r.val + k.val, hlt⟩)).val = (S2048x4096.rowMajor (ij r k)).val := by
    rw [Shape.rowMajor_val_one, Shape.rowMajor_val_two]
    show 4096 * r.val + k.val = r.val * 4096 + k.val
    omega
  have hs : ((scaleAt (ValueIdx.ix1 ⟨4096 * r.val + k.val, hlt⟩)) 0).val = 16 * r.val + (⟨k.val % 16, hc⟩ : Fin 16).val := by
    show 16 * ((4096 * r.val + k.val) / 4096) + (4096 * r.val + k.val) % 16 = 16 * r.val + k.val % 16
    omega
  unfold Res
  refine (shapeCast_apply _ _ _ _ hpos).trans ?_
  unfold Out outVal
  rw [X_eq, Sc_eq, Zp_eq, spread_at _ r ⟨k.val % 16, hc⟩ _ hs, spread_at _ r ⟨k.val % 16, hc⟩ _ hs]
  exact congrArg (fun v => quant1 v _ _) (shapeCast_apply _ _ _ _ hpos.symm)

end Cert.KernelIdeal.Value
-- ==== Proof.Nearest.lean ====
/-
  The mathematics of the quantiser over the extended reals, without programs: what the kernel's cut, correction and
  clamp give at a real number (`level_real`), that a first nearest code of the sixteen integers from -8 to 7 is the same
  integer (`nearest_code`), and that two elements of equal shifted quotient, or whose shifted quotient does not matter,
  come back equal (`same_back`).
-/
module

public import Idealize.ShloMosaic.PureOps.Ideal.Laws
public import proofs.«01_k».proof.Proof.QuantIdeal

@[expose] public section

noncomputable section

namespace Cert.Proof.Nearest

open Idealize.ShloMosaic Cert.KernelIdeal.Quant

/-! ## The literals -/

/-- The word of one half. -/
theorem half_eq : (FloatOps.ofBits .f32 0x3F000000#32 : Ideal .f32) = ((1 / 2 : ℝ) : EReal) := by
  simp [FloatOps.ofBits, Ideal.ofBits, Ideal.ieee, -EReal.coe_mul]; norm_num
/-- The word of one. -/
theorem one_eq : (FloatOps.ofBits .f32 0x3F800000#32 : Ideal .f32) = ((1 : ℝ) : EReal) := by
  simp [FloatOps.ofBits, Ideal.ofBits, Ideal.ieee, -EReal.coe_mul]; norm_num
/-- The word of zero. -/
theorem zero_eq : (FloatOps.ofBits .f32 0x00000000#32 : Ideal .f32) = ((0 : ℝ) : EReal) := by
  simp [FloatOps.ofBits, Ideal.ofBits, Ideal.ieee, -EReal.coe_mul]
/-- The word of the least code. -/
theorem low_eq : (FloatOps.ofBits .f32 0xC1000000#32 : Ideal .f32) = ((-8 : ℝ) : EReal) := by
  simp [FloatOps.ofBits, Ideal.ofBits, Ideal.ieee, -EReal.coe_mul]; norm_num
/-- The word of the greatest code. -/
theorem high_eq : (FloatOps.ofBits .f32 0x40E00000#32 : Ideal .f32) = ((7 : ℝ) : EReal) := by
  simp [FloatOps.ofBits, Ideal.ofBits, Ideal.ieee, -EReal.coe_mul]; norm_num
/-- The word of eight. -/
theorem eight_eq : (FloatOps.ofBits .f32 0x41000000#32 : Ideal .f32) = ((8 : ℝ) : EReal) := by
  simp [FloatOps.ofBits, Ideal.ofBits, Ideal.ieee, -EReal.coe_mul]; norm_num
/-- The word of infinity. -/
theorem inf_eq : (FloatOps.ofBits .f32 0x7F800000#32 : Ideal .f32) = ⊤ := by
  simp [FloatOps.ofBits, Ideal.ofBits, Ideal.ieee]

/-! ## The kernel's level -/

/-- The integer that the kernel's cut gives at a real `q`: `q - 1/2` towards zero, held in 32 bits. -/
def cutInt (q : ℝ) : ℤ := max (-2147483648) (min 2147483647 (if 0 ≤ q - 1 / 2 then ⌊q - 1 / 2⌋ else ⌈q - 1 / 2⌉))

/-- The kernel's cut of a real number is that integer. -/
theorem cut_real (q : ℝ) : cut (F := Ideal) ((q : ℝ) : EReal) = ((cutInt q : ℝ) : EReal) := by
  have hb : -2147483648 ≤ cutInt q ∧ cutInt q ≤ 2147483647 := by unfold cutInt; omega
  have h : Ideal.toIntClamped (-(2 ^ (32 - 1) : ℕ)) ((2 ^ (32 - 1) : ℕ) - 1) ((q - 1 / 2 : ℝ) : EReal) = cutInt q := rfl
  unfold cut
  rw [half_eq]
  show (((Ideal.fptosi 32 ((q : EReal) - ((1 / 2 : ℝ) : EReal))).toInt : ℝ) : EReal) = _
  rw [← EReal.coe_sub, Ideal.fptosi, h, BitVec.toInt_ofInt_eq_self (by norm_num) (by omega) (by omega)]

/-- The integer before the clamp: the cut, and one more where the cut lies more than a half below. -/
def nearestInt (q : ℝ) : ℤ := cutInt q + if (cutInt q : ℝ) + 1 / 2 < q then 1 else 0

/-- The kernel's nearest integer to a real number is that integer. -/
theorem nearest_real (q : ℝ) : nearest (F := Ideal) ((q : ℝ) : EReal) = ((nearestInt q : ℝ) : EReal) := by
  unfold nearest nearestInt
  rw [cut_real, half_eq, one_eq, zero_eq]
  show ((cutInt q : ℝ) : EReal) + Scalar.select (BitVec.ofBool (decide (((cutInt q : ℝ) : EReal) + ((1 / 2 : ℝ) : EReal) < (q : EReal)))) _ _ = _
  rw [← EReal.coe_add]
  by_cases hq : (cutInt q : ℝ) + 1 / 2 < q
  · rw [if_pos hq, decide_eq_true (EReal.coe_lt_coe_iff.2 hq)]
    show ((cutInt q : ℝ) : EReal) + ((1 : ℝ) : EReal) = _
    rw [← EReal.coe_add]; push_cast; rfl
  · rw [if_neg hq, decide_eq_false (fun h => hq (EReal.coe_lt_coe_iff.1 h))]
    show ((cutInt q : ℝ) : EReal) + ((0 : ℝ) : EReal) = _
    rw [← EReal.coe_add]; push_cast; rfl

/-- The integer nearest `q` (of two the lower), held between -8 and 7. -/
def code (q : ℝ) : ℤ := min (max ⌈q - 1 / 2⌉ (-8)) 7

/-- Held between -8 and 7 it is the code. -/
theorem clamp_nearestInt (q : ℝ) : min (max (nearestInt q) (-8)) 7 = code q := by
  unfold nearestInt code
  have hc : (cutInt q : ℝ) + 1 / 2 < q ↔ cutInt q < ⌈q - 1 / 2⌉ := by
    rw [Int.lt_ceil]; constructor <;> intro h <;> linarith
  simp only [hc]
  have hf : ⌊q - 1 / 2⌋ ≤ ⌈q - 1 / 2⌉ := Int.floor_le_ceil _
  have hg : ⌈q - 1 / 2⌉ ≤ ⌊q - 1 / 2⌋ + 1 := Int.ceil_le_floor_add_one _
  unfold cutInt
  split <;> split <;> omega

/-- At a real number the kernel's level is that integer. -/
theorem level_real (q : ℝ) : level (F := Ideal) ((q : ℝ) : EReal) = ((code q : ℝ) : EReal) := by
  unfold level
  rw [nearest_real, low_eq, high_eq, ← clamp_nearestInt]
  show min (max ((nearestInt q : ℝ) : EReal) ((-8 : ℝ) : EReal)) ((7 : ℝ) : EReal) = _
  rw [← EReal.coe_strictMono.monotone.map_max, ← EReal.coe_strictMono.monotone.map_min]
  push_cast; rfl

/-- Whatever it is taken of, the kernel's level is a real number. -/
theorem level_finite (q : EReal) : ∃ r : ℝ, level (F := Ideal) q = (r : EReal) := by
  unfold level
  rw [low_eq, high_eq]
  show ∃ r : ℝ, min (max (nearest (F := Ideal) q : EReal) ((-8 : ℝ) : EReal)) ((7 : ℝ) : EReal) = (r : EReal)
  generalize (nearest (F := Ideal) q : EReal) = n
  induction n using EReal.rec with
  | bot => exact ⟨min (-8) 7, by rw [max_eq_right bot_le, ← EReal.coe_strictMono.monotone.map_min]⟩
  | top => exact ⟨7, by rw [max_eq_left le_top, min_eq_right le_top]⟩
  | coe r => exact ⟨min (max r (-8)) 7, by rw [← EReal.coe_strictMono.monotone.map_max, ← EReal.coe_strictMono.monotone.map_min]⟩

/-! ## The nearest code -/

/-- Of the integers from -8 to 7, numbered from 0, the first of those nearest to a real `q` is `code q`. -/
theorem nearest_code (q : ℝ) (i : Fin 16)
    (hi : ∀ k : Fin 16, |q - ((i.val : ℝ) - 8)| < |q - ((k.val : ℝ) - 8)| ∨ |q - ((i.val : ℝ) - 8)| = |q - ((k.val : ℝ) - 8)| ∧ i ≤ k) :
    (i.val : ℝ) - 8 = (code q : ℝ) := by
  have hc : -8 ≤ code q ∧ code q ≤ 7 := by unfold code; omega
  obtain ⟨k, hk⟩ : ∃ k : Fin 16, (k.val : ℤ) - 8 = code q := ⟨⟨(code q + 8).toNat, by omega⟩, by simp only; omega⟩
  have hk' : (code q : ℝ) = (k.val : ℝ) - 8 := by rw [← hk]; push_cast; rfl
  have h1 : ((⌈q - 1 / 2⌉ : ℤ) : ℝ) < q - 1 / 2 + 1 := Int.ceil_lt_add_one _
  have h2 : q - 1 / 2 ≤ ((⌈q - 1 / 2⌉ : ℤ) : ℝ) := Int.le_ceil _
  -- `q` is at most a half above `k`'s code unless `k` is the last, at most less than a half below unless it is the first
  have up : k.val < 15 → q ≤ (k.val : ℝ) - 8 + 1 / 2 := by
    intro h
    have : ⌈q - 1 / 2⌉ ≤ (k.val : ℤ) - 8 := by unfold code at hk; omega
    have : ((⌈q - 1 / 2⌉ : ℤ) : ℝ) ≤ (k.val : ℝ) - 8 := by exact_mod_cast this
    linarith
  have down : 0 < k.val → (k.val : ℝ) - 8 - 1 / 2 < q := by
    intro h
    have : (k.val : ℤ) - 8 ≤ ⌈q - 1 / 2⌉ := by unfold code at hk; omega
    have : (k.val : ℝ) - 8 ≤ ((⌈q - 1 / 2⌉ : ℤ) : ℝ) := by exact_mod_cast this
    linarith
  rw [hk']
  rcases lt_trichotomy i k with hlt | rfl | hgt
  · have hv : i.val + 1 ≤ k.val := hlt
    have hd := down (by omega)
    have hv' : (i.val : ℝ) + 1 ≤ (k.val : ℝ) := by exact_mod_cast hv
    have : |q - ((k.val : ℝ) - 8)| < |q - ((i.val : ℝ) - 8)| := by
      rw [abs_of_pos (show 0 < q - ((i.val : ℝ) - 8) by linarith), abs_lt]
      constructor <;> linarith
    rcases hi k with h | h
    · exact absurd h (not_lt.mpr this.le)
    · exact absurd h.1 this.ne'
  · rfl
  · have hv : k.val + 1 ≤ i.val := hgt
    have hu := up (by have := i.isLt; omega)
    have hv' : (k.val : ℝ) + 1 ≤ (i.val : ℝ) := by exact_mod_cast hv
    have : |q - ((k.val : ℝ) - 8)| ≤ |q - ((i.val : ℝ) - 8)| := by
      rw [abs_of_neg (show q - ((i.val : ℝ) - 8) < 0 by linarith), abs_le]
      constructor <;> linarith
    rcases hi k with h | h
    · exact absurd h (not_lt.mpr this)
    · exact absurd h.2 (not_le.mpr hgt)

/-- The absolute value of an extended real that is real. -/
theorem abs_real (r : ℝ) : max (r : EReal) (-(r : EReal)) = ((|r| : ℝ) : EReal) := by
  rw [← EReal.coe_neg, ← EReal.coe_strictMono.monotone.map_max]; rfl

/-! ## One element -/

/-- The kernel's element and the reference's: `x` is real, `t` is one of the codes and, where the shifted quotient `q` is
    a real number, the nearest code to it. They are equal whatever the scale and the zero point: at scale zero both are
    zero, at an infinite zero point both are an infinity times the scale, and otherwise both scale `code q - z`. -/
theorem same_back (x t : ℝ) (s z : EReal)
    (ht : ∀ q : ℝ, Ideal.div (x : EReal) s + z = (q : EReal) → t = (code q : ℝ)) :
    quant1 (F := Ideal) (x : EReal) s z = ((t : EReal) - z) * s := by
  unfold quant1
  show ((level (F := Ideal) (scaled (F := Ideal) (x : EReal) s z) : EReal) - z) * s = _
  by_cases hs : s = 0
  · rw [hs, mul_zero, mul_zero]
  obtain ⟨l, hl⟩ := level_finite (scaled (F := Ideal) (x : EReal) s z)
  induction z using EReal.rec with
  | bot => rw [hl, EReal.coe_sub_bot, EReal.coe_sub_bot]
  | top => rw [hl, EReal.sub_top, EReal.sub_top]
  | coe z =>
    have hd : scaled (F := Ideal) (x : EReal) s (z : EReal) = Ideal.div (x : EReal) s + (z : EReal) := by
      unfold scaled
      rw [one_eq]
      show (x : EReal) * Ideal.div ((1 : ℝ) : EReal) s + (z : EReal) = _
      rw [Ideal.div, Ideal.div, if_neg hs, if_neg hs, EReal.coe_one, one_mul]
    have hq : ∃ q : ℝ, Ideal.div (x : EReal) s + (z : EReal) = (q : EReal) := by
      rw [Ideal.div, if_neg hs]
      induction s using EReal.rec with
      | bot => exact ⟨z, by rw [EReal.inv_bot, mul_zero, zero_add]⟩
      | top => exact ⟨z, by rw [EReal.inv_top, mul_zero, zero_add]⟩
      | coe s => exact ⟨x * s⁻¹ + z, by rw [← EReal.coe_inv, ← EReal.coe_mul, ← EReal.coe_add]⟩
    obtain ⟨q, hq⟩ := hq
    rw [hd, hq, level_real, ht q hq]

end Cert.Proof.Nearest
-- ==== Proof.Codes.lean ====
/-
  What the precondition `int4_codes` says of the arrays, over the extended reals: the input is real everywhere (`real_of_pre`)
  and the codebook is the integers from -8 to 7 in order (`code_of_pre`).
-/
module

public import proofs.«01_k».proof.Pre_int4_codes
public import proofs.«01_k».proof.Proof.Gen.Pre_int4_codes
public import proofs.«01_k».proof.Proof.Nearest
public import Idealize.ShloMosaic.Lib.StableHlo.Predicate
public import Idealize.ShloMosaic.Lib.ReduceAll
public import Idealize.ShloMosaic.Lib.ValueIdxCore

@[expose] public section

noncomputable section

namespace Cert.Proof.Codes

open Cert.Pre_int4_codes Cert.Proof.Nearest
open Idealize.ShloMosaic Idealize.ShloMosaic.StableHlo.Predicate

local instance : Cert.Pre_int4_codes.Facts := Cert.Pre_int4_codes.Gen.facts

/-- A scalar's array has one index. -/
instance : Subsingleton S_.Idx := ⟨fun i j => funext fun a => a.elim0⟩

/-- Where the precondition holds, both of its conjunctions hold at every element. -/
theorem split_pre {x : S2048x4096.Idx → EReal} {s z : S2048x1.Idx → EReal} {c : S16.Idx → EReal}
    (h : fn (F := Ideal) x s z c = fun _ => 1#1) :
    (∀ i, max (x i) (-(x i)) < ⊤)
      ∧ ∀ k : Fin 16, c (Shape.Idx.ofFin k) = (((BitVec.ofNat 32 k.val).toInt : ℝ) : EReal) - ((8 : ℝ) : EReal) := by
  have h0 := congrFun h (Shape.Idx.first Facts.h_S_)
  unfold fn at h0
  obtain ⟨hx, hc⟩ := IntOp.andi_eq_one.1 h0
  constructor
  · intro i
    have hi := Host.reduce_andi_all _ _ _ _ _ hx i
    have hlt : BitVec.ofBool (decide (max (x i) (-(x i)) < (FloatOps.ofBits .f32 0x7F800000#32 : Ideal .f32))) = 1#1 := hi
    rw [ofBool_eq_one_iff, decide_eq_true_eq, inf_eq] at hlt
    exact hlt
  · intro k
    have hk := Host.reduce_andi_all _ _ _ _ _ hc (Shape.Idx.ofFin k)
    have heq : BitVec.ofBool (decide (c (Shape.Idx.ofFin k)
        = (((BitVec.ofNat 32 k.val).toInt : ℝ) : EReal) - (FloatOps.ofBits .f32 0x41000000#32 : Ideal .f32))) = 1#1 := hk
    rw [ofBool_eq_one_iff, decide_eq_true_eq, eight_eq] at heq
    exact heq

/-- Every element of the input is a real number. -/
theorem real_of_pre {x : S2048x4096.Idx → EReal} {s z : S2048x1.Idx → EReal} {c : S16.Idx → EReal}
    (h : fn (F := Ideal) x s z c = fun _ => 1#1) (i : S2048x4096.Idx) : ∃ v : ℝ, x i = (v : EReal) := by
  have hi := (split_pre h).1 i
  generalize x i = v at hi
  induction v with
  | coe v => exact ⟨v, rfl⟩
  | top => simp at hi
  | bot => simp at hi

/-- The code at place `k` is `k` less eight. -/
theorem code_of_pre {x : S2048x4096.Idx → EReal} {s z : S2048x1.Idx → EReal} {c : S16.Idx → EReal}
    (h : fn (F := Ideal) x s z c = fun _ => 1#1) (k : Fin 16) : c (Shape.Idx.ofFin k) = (((k.val : ℝ) - 8 : ℝ) : EReal) := by
  rw [(split_pre h).2 k, toInt_ofNat_small k.val (by omega), ← EReal.coe_sub]
  norm_cast

end Cert.Proof.Codes
-- ==== Proof.Algebraic.lean ====
/-
  The kernel's result and the reference's are equal, element by element, over the extended reals (`result_eq`).
-/
module

public import proofs.«01_k».proof.Proof.RefElement
public import proofs.«01_k».proof.Proof.KernelValue
public import proofs.«01_k».proof.Proof.Codes

@[expose] public section

noncomputable section

namespace Cert.Proof.Algebraic

open Cert.Pre_int4_codes Cert.Proof.Nearest Cert.Proof.Codes Cert.ReferenceIdeal.Value Cert.ReferenceIdeal.Run
open Idealize.ShloMosaic Idealize.ShloMosaic.StableHlo.Predicate

local instance : Cert.Pre_int4_codes.Facts := Cert.Pre_int4_codes.Gen.facts

/-- At an element, quantizing by the row's scale and zero point is what the reference computes. -/
theorem element_eq {x : S2048x4096.Idx → EReal} {s z : S2048x1.Idx → EReal} {c : S16.Idx → EReal}
    (h : fn (F := Ideal) x s z c = fun _ => 1#1) (r : Fin 2048) (k : Fin 4096) :
    Cert.KernelIdeal.Quant.quant1 (F := Ideal) (x (ij r k)) (s (ixP r)) (z (ixP r)) = refVal (F := Ideal) x s z c (ij r k) := by
  obtain ⟨i, hi, hmin⟩ := refVal_at x s z c r k
  rw [hi]
  obtain ⟨v, hv⟩ := real_of_pre h (ij r k)
  rw [hv, code_of_pre h i]
  refine same_back v _ _ _ fun q hq => nearest_code q i fun k' => ?_
  have hd : ∀ k' : Fin 16, distArr (F := Ideal) (scaledArr (F := Ideal) x s z) c (ij (flat r k) k') = ((|q - ((k'.val : ℝ) - 8)| : ℝ) : EReal) := by
    intro k'
    rw [distArr_at, scaledArr_at, hv, hq, code_of_pre h k', ← EReal.coe_sub, abs_real]
  have hm := hmin k'
  rw [hd, hd] at hm
  exact hm.imp EReal.coe_lt_coe_iff.1 fun h => ⟨EReal.coe_eq_coe_iff.1 h.1, h.2⟩

open Cert.KernelIdeal Cert.KernelIdeal.Run in
/-- The two results are one array. -/
theorem result_eq (m : (ℓ : Loc nD τ sig) → Buf (Elt Ideal) ℓ) (d : Dev nD)
    (h : fn (F := Ideal) (m (d, dr main_arg0)) (m (d, dr main_arg1)) (m (d, dr main_arg2)) (m (d, dr main_arg3)) = fun _ => 1#1) :
    (Res m d : Cert.Pre_int4_codes.S2048x4096.Idx → EReal)
      = refVal (F := Ideal) (m (d, dr main_arg0)) (m (d, dr main_arg1)) (m (d, dr main_arg2)) (m (d, dr main_arg3)) := by
  funext j
  obtain ⟨r, k, rfl⟩ : ∃ (r : Fin 2048) (k : Fin 4096), j = ij r k := ⟨j 0, j 1, (ij_eta j).symm⟩
  exact (Cert.KernelIdeal.Value.Res_at m d r k).trans (element_eq h r k)

end Cert.Proof.Algebraic
-- ==== Proof.lean ====
/-
  The proof of `Cert.Claim`: the kernel as it is, and over the extended reals, and the reference run without a fault and leave
  their arguments and counters as they were (the frames, from `run_main` and `run`); the kernel over the extended reals
  ends with the reference's result where `int4_codes` holds (`algebraic`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_int4_codes
public import Idealize.ShloMosaic.Adequacy
public import Idealize.ShloMosaic.Init
public import Idealize.ShloMosaic.Lib.Quiescent
public import proofs.«01_k».proof.Proof.RunBits
public import proofs.«01_k».proof.Proof.RunIdeal
public import proofs.«01_k».proof.Proof.RefRun
public import proofs.«01_k».proof.Proof.Algebraic

@[expose] public section

noncomputable section

namespace Cert.Proof

open Idealize.ShloMosaic Idealize.SL.Sem

local instance : Cert.Kernel.Facts := Cert.Kernel.Gen.facts
local instance : Cert.KernelIdeal.Facts := Cert.KernelIdeal.Gen.facts
local instance : Cert.ReferenceIdeal.Facts := Cert.ReferenceIdeal.Gen.facts
local instance : Cert.Pre_int4_codes.Facts := Cert.Pre_int4_codes.Gen.facts

/-- The kernel, of bits, leaves its arguments and every counter as they were. -/
theorem frame_kernel : Cert.quiescent_Kernel := fun m g _ =>
  (θ_run _ _ _).mono (fun _ h => ⟨fun c => (h.1 c).2, h.2⟩) (Cert.Kernel.Run.run_main m g)

/-- The kernel over the extended reals likewise. -/
theorem frame_ideal : Cert.quiescent_KernelIdeal := fun m g _ =>
  (θ_run _ _ _).mono (fun _ h => ⟨fun c => (h.1 c).2, h.2⟩) (Cert.KernelIdeal.Run.run_main m g)

/-- The reference likewise: it names no counter. -/
theorem frame_reference : Cert.quiescent_ReferenceIdeal := fun m g _ =>
  (θ_run _ _ _).mono (fun r h => ⟨fun c => (h c).2, sem_eq_zero_of_no_sems (by decide) r.2⟩) (Cert.ReferenceIdeal.Run.run m g)

/-- Where `int4_codes` holds, the kernel and the reference end with one result. -/
theorem algebraic : Cert.algebraic_KernelIdeal_ReferenceIdeal_pre_int4_codes := by
  intro m g m' g' hpre hargs
  refine ⟨fun c => Cert.KernelIdeal.Run.Res m c, (θ_run _ _ _).mono (fun _ h c => h.1 c) (Cert.KernelIdeal.Run.run_main m g),
    (θ_run _ _ _).mono (fun r h c => ⟨?_, (h c).2⟩) (Cert.ReferenceIdeal.Run.run m' g')⟩
  obtain ⟨h0, h1, h2, h3⟩ := hargs c
  rw [(h c).1, h0, h1, h2, h3]
  exact (Algebraic.result_eq m c (hpre c)).symm

theorem claim : Cert.Claim :=
  ⟨Cert.Kernel.Gen.facts, Cert.KernelIdeal.Gen.facts, Cert.ReferenceIdeal.Gen.facts, Cert.Pre_int4_codes.Gen.facts,
    frame_kernel, frame_ideal, fun m g _ => frame_ideal m g trivial, frame_reference, fun m g _ => frame_reference m g trivial,
    trivial, algebraic⟩

end Cert.Proof

end
